-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S4096x2 : Shape := ⟨2, ![4096, 2]⟩
abbrev S2x80x64x64 : Shape := ⟨4, ![2, 80, 64, 64]⟩
abbrev S2x4x64x64 : Shape := ⟨4, ![2, 4, 64, 64]⟩
abbrev S2x1x64x64 : Shape := ⟨4, ![2, 1, 64, 64]⟩
abbrev S1x2 : Shape := ⟨2, ![1, 2]⟩
abbrev S_ : Shape := ⟨0, ![]⟩

class Facts : Prop where
  bcast_S_S2x4x64x64 : S_.BroadcastsInDim S2x4x64x64 (![] : Fin 0 → Fin S2x4x64x64.rank)
  reducesTo_S2x4x64x64_S_d0_1_2_3 : S2x4x64x64.ReducesTo [0, 1, 2, 3] S_
  h_S_ : 0 < S_.numel

variable [Facts]

def fn {F : FTy → Type} [FloatOps F] (main_arg0 : FVec F S4096x2 .f32) (main_arg1 : FVec F S2x80x64x64 .f32) (main_arg2 : FVec F S2x4x64x64 .f32) (main_arg3 : FVec F S2x1x64x64 .f32) (main_arg4 : IVec S1x2 32) : IVec S_ 1 :=
  let main_cst : FVec F S_ .f32 := constant S_ .f32 0x00000000#32
  let main_v0 : FVec F S2x4x64x64 .f32 := broadcastInDim S2x4x64x64 ![] bcast_S_S2x4x64x64 main_cst
  let main_v1 : IVec S2x4x64x64 1 := cmpf .oge main_arg2 main_v0
  let main_c : IVec S_ 1 := constantI S_ 1 1#1
  let main_v2 : IVec S_ 1 := (fun x v => Host.reduce IntOp.andi x v reducesTo_S2x4x64x64_S_d0_1_2_3 h_S_) main_v1 main_c
  main_v2
-- ==== Kernel.lean ====
abbrev S4096x2 : Shape := ⟨2, ![4096, 2]⟩
abbrev S2x80x64x64 : Shape := ⟨4, ![2, 80, 64, 64]⟩
abbrev S2x4x64x64 : Shape := ⟨4, ![2, 4, 64, 64]⟩
abbrev S2x1x64x64 : Shape := ⟨4, ![2, 1, 64, 64]⟩
abbrev S1x2 : Shape := ⟨2, ![1, 2]⟩
abbrev S_ : Shape := ⟨0, ![]⟩
abbrev S2x64x64x80 : Shape := ⟨4, ![2, 64, 64, 80]⟩
abbrev S2x4096x80 : Shape := ⟨3, ![2, 4096, 80]⟩
abbrev S2x64x64x4 : Shape := ⟨4, ![2, 64, 64, 4]⟩
abbrev S2x4096x4 : Shape := ⟨3, ![2, 4096, 4]⟩
abbrev S2x327680 : Shape := ⟨2, ![2, 327680]⟩
abbrev S2x1000 : Shape := ⟨2, ![2, 1000]⟩
abbrev S2x1000x1 : Shape := ⟨3, ![2, 1000, 1]⟩
abbrev S1 : Shape := ⟨1, ![1]⟩
abbrev S1x1x1 : Shape := ⟨3, ![1, 1, 1]⟩
abbrev S2x1000x4 : Shape := ⟨3, ![2, 1000, 4]⟩
abbrev S2x1000x2 : Shape := ⟨3, ![2, 1000, 2]⟩
abbrev S2x1000x8 : Shape := ⟨3, ![2, 1000, 8]⟩
abbrev S2x8x1000 : Shape := ⟨3, ![2, 8, 1000]⟩
abbrev S2x8x1024 : Shape := ⟨3, ![2, 8, 1024]⟩
abbrev S2x100x6 : Shape := ⟨3, ![2, 100, 6]⟩
abbrev S1x1 : Shape := ⟨2, ![1, 1]⟩
abbrev S2x1x1024 : Shape := ⟨3, ![2, 1, 1024]⟩
abbrev S2x1024 : Shape := ⟨2, ![2, 1024]⟩
abbrev S2x128 : Shape := ⟨2, ![2, 128]⟩
abbrev S2x1024x1 : Shape := ⟨3, ![2, 1024, 1]⟩
abbrev S2x1x128 : Shape := ⟨3, ![2, 1, 128]⟩
abbrev S2x1024x128 : Shape := ⟨3, ![2, 1024, 128]⟩
abbrev S2x128x128 : Shape := ⟨3, ![2, 128, 128]⟩
abbrev S2x1 : Shape := ⟨2, ![2, 1]⟩
abbrev S2x128x1 : Shape := ⟨3, ![2, 128, 1]⟩
abbrev S2x256 : Shape := ⟨2, ![2, 256]⟩
abbrev S2x256x128 : Shape := ⟨3, ![2, 256, 128]⟩
abbrev S2x256x1 : Shape := ⟨3, ![2, 256, 1]⟩
abbrev S2x384 : Shape := ⟨2, ![2, 384]⟩
abbrev S2x384x128 : Shape := ⟨3, ![2, 384, 128]⟩
abbrev S2x384x1 : Shape := ⟨3, ![2, 384, 1]⟩
abbrev S2x512 : Shape := ⟨2, ![2, 512]⟩
abbrev S2x512x128 : Shape := ⟨3, ![2, 512, 128]⟩
abbrev S2x512x1 : Shape := ⟨3, ![2, 512, 1]⟩
abbrev S2x640 : Shape := ⟨2, ![2, 640]⟩
abbrev S2x640x128 : Shape := ⟨3, ![2, 640, 128]⟩
abbrev S2x640x1 : Shape := ⟨3, ![2, 640, 1]⟩
abbrev S2x768 : Shape := ⟨2, ![2, 768]⟩
abbrev S2x768x128 : Shape := ⟨3, ![2, 768, 128]⟩
abbrev S2x768x1 : Shape := ⟨3, ![2, 768, 1]⟩
abbrev S2x896 : Shape := ⟨2, ![2, 896]⟩
abbrev S2x896x128 : Shape := ⟨3, ![2, 896, 128]⟩
abbrev S2x896x1 : Shape := ⟨3, ![2, 896, 1]⟩
abbrev S1024x1024 : Shape := ⟨2, ![1024, 1024]⟩
abbrev S2x1024x8 : Shape := ⟨3, ![2, 1024, 8]⟩
abbrev S1024x128 : Shape := ⟨2, ![1024, 128]⟩
abbrev S1x1024 : Shape := ⟨2, ![1, 1024]⟩
abbrev S1024 : Shape := ⟨1, ![1024]⟩
abbrev S1024x1 : Shape := ⟨2, ![1024, 1]⟩
abbrev S128x1024 : Shape := ⟨2, ![128, 1024]⟩
abbrev S1x1024x8 : Shape := ⟨3, ![1, 1024, 8]⟩
abbrev S1024x8 : Shape := ⟨2, ![1024, 8]⟩
abbrev S128x8 : Shape := ⟨2, ![128, 8]⟩
abbrev S100x6 : Shape := ⟨2, ![100, 6]⟩
abbrev S1x100x6 : Shape := ⟨3, ![1, 100, 6]⟩

abbrev nBuf : Space → Nat
  | .hbm => 111
  | .vmem => 2
  | .smem => 1
  | _ => 0

abbrev bufTy : (tb : Table) → Fin (tcTables nBuf tb) → BufTy
  | .hbm, ⟨0, _⟩ => ⟨S4096x2, .f32⟩
  | .hbm, ⟨1, _⟩ => ⟨S2x80x64x64, .f32⟩
  | .hbm, ⟨2, _⟩ => ⟨S2x4x64x64, .f32⟩
  | .hbm, ⟨3, _⟩ => ⟨S2x1x64x64, .f32⟩
  | .hbm, ⟨4, _⟩ => ⟨S1x2, .i32⟩
  | .hbm, ⟨5, _⟩ => ⟨S2x80x64x64, .f32⟩
  | .hbm, ⟨6, _⟩ => ⟨S2x80x64x64, .f32⟩
  | .hbm, ⟨7, _⟩ => ⟨S_, .f32⟩
  | .hbm, ⟨8, _⟩ => ⟨S2x80x64x64, .f32⟩
  | .hbm, ⟨9, _⟩ => ⟨S2x80x64x64, .f32⟩
  | .hbm, ⟨10, _⟩ => ⟨S_, .f32⟩
  | .hbm, ⟨11, _⟩ => ⟨S2x80x64x64, .f32⟩
  | .hbm, ⟨12, _⟩ => ⟨S2x80x64x64, .f32⟩
  | .hbm, ⟨13, _⟩ => ⟨S2x64x64x80, .f32⟩
  | .hbm, ⟨14, _⟩ => ⟨S2x4096x80, .f32⟩
  | .hbm, ⟨15, _⟩ => ⟨S2x64x64x4, .f32⟩
  | .hbm, ⟨16, _⟩ => ⟨S2x4096x4, .f32⟩
  | .hbm, ⟨17, _⟩ => ⟨S_, .f32⟩
  | .hbm, ⟨18, _⟩ => ⟨S2x4096x80, .f32⟩
  | .hbm, ⟨19, _⟩ => ⟨S2x4096x80, .i1⟩
  | .hbm, ⟨20, _⟩ => ⟨S_, .f32⟩
  | .hbm, ⟨21, _⟩ => ⟨S_, .f32⟩
  | .hbm, ⟨22, _⟩ => ⟨S2x4096x80, .f32⟩
  | .hbm, ⟨23, _⟩ => ⟨S2x4096x80, .f32⟩
  | .hbm, ⟨24, _⟩ => ⟨S2x327680, .f32⟩
  | .hbm, ⟨25, _⟩ => ⟨S2x1000, .f32⟩
  | .hbm, ⟨26, _⟩ => ⟨S2x1000, .i32⟩
  | .hbm, ⟨27, _⟩ => ⟨S_, .i32⟩
  | .hbm, ⟨28, _⟩ => ⟨S_, .i32⟩
  | .hbm, ⟨29, _⟩ => ⟨S2x1000, .i32⟩
  | .hbm, ⟨30, _⟩ => ⟨S2x1000, .i32⟩
  | .hbm, ⟨31, _⟩ => ⟨S2x1000, .i32⟩
  | .hbm, ⟨32, _⟩ => ⟨S_, .i32⟩
  | .hbm, ⟨33, _⟩ => ⟨S2x1000, .i32⟩
  | .hbm, ⟨34, _⟩ => ⟨S2x1000, .i1⟩
  | .hbm, ⟨35, _⟩ => ⟨S2x1000, .i32⟩
  | .hbm, ⟨36, _⟩ => ⟨S2x1000, .i32⟩
  | .hbm, ⟨37, _⟩ => ⟨S_, .i32⟩
  | .hbm, ⟨38, _⟩ => ⟨S2x1000, .i32⟩
  | .hbm, ⟨39, _⟩ => ⟨S2x1000, .i1⟩
  | .hbm, ⟨40, _⟩ => ⟨S2x1000, .i1⟩
  | .hbm, ⟨41, _⟩ => ⟨S_, .i32⟩
  | .hbm, ⟨42, _⟩ => ⟨S2x1000, .i32⟩
  | .hbm, ⟨43, _⟩ => ⟨S2x1000, .i32⟩
  | .hbm, ⟨44, _⟩ => ⟨S2x1000, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S2x1000, .i32⟩
  | .hbm, ⟨52, _⟩ => ⟨S2x1000, .i32⟩
  | .hbm, ⟨53, _⟩ => ⟨S_, .i32⟩
  | .hbm, ⟨54, _⟩ => ⟨S2x1000, .i32⟩
  | .hbm, ⟨55, _⟩ => ⟨S2x1000, .i1⟩
  | .hbm, ⟨56, _⟩ => ⟨S_, .i32⟩
  | .hbm, ⟨57, _⟩ => ⟨S2x1000, .i32⟩
  | .hbm, ⟨58, _⟩ => ⟨S2x1000, .i1⟩
  | .hbm, ⟨59, _⟩ => ⟨S_, .i32⟩
  | .hbm, ⟨60, _⟩ => ⟨S_, .i1⟩
  | .hbm, ⟨61, _⟩ => ⟨S2x1000, .i1⟩
  | .hbm, ⟨62, _⟩ => ⟨S2x1000, .i1⟩
  | .hbm, ⟨63, _⟩ => ⟨S2x1000, .i1⟩
  | .hbm, ⟨64, _⟩ => ⟨S2x1000, .i32⟩
  | .hbm, ⟨65, _⟩ => ⟨S2x1000, .i32⟩
  | .hbm, ⟨66, _⟩ => ⟨S2x1000, .i32⟩
  | .hbm, ⟨67, _⟩ => ⟨S_, .i32⟩
  | .hbm, ⟨68, _⟩ => ⟨S2x1000, .i32⟩
  | .hbm, ⟨69, _⟩ => ⟨S2x1000, .i32⟩
  | .hbm, ⟨70, _⟩ => ⟨S2x1000, .f32⟩
  | .hbm, ⟨71, _⟩ => ⟨S2x1000x1, .i32⟩
  | .hbm, ⟨72, _⟩ => ⟨S_, .i32⟩
  | .hbm, ⟨73, _⟩ => ⟨S2x1000x1, .i32⟩
  | .hbm, ⟨74, _⟩ => ⟨S2x1000x1, .i1⟩
  | .hbm, ⟨75, _⟩ => ⟨S_, .i32⟩
  | .hbm, ⟨76, _⟩ => ⟨S2x1000x1, .i32⟩
  | .hbm, ⟨77, _⟩ => ⟨S2x1000x1, .i32⟩
  | .hbm, ⟨78, _⟩ => ⟨S2x1000x1, .i32⟩
  | .hbm, ⟨79, _⟩ => ⟨S1, .i32⟩
  | .hbm, ⟨80, _⟩ => ⟨S_, .i32⟩
  | .hbm, ⟨81, _⟩ => ⟨S2x1000x1, .i32⟩
  | .hbm, ⟨82, _⟩ => ⟨S2x1000x1, .i1⟩
  | .hbm, ⟨83, _⟩ => ⟨S1x1x1, .i32⟩
  | .hbm, ⟨84, _⟩ => ⟨S2x1000x1, .i32⟩
  | .hbm, ⟨85, _⟩ => ⟨S2x1000x1, .i1⟩
  | .hbm, ⟨86, _⟩ => ⟨S2x1000x1, .i1⟩
  | .hbm, ⟨87, _⟩ => ⟨S_, .i1⟩
  | .hbm, ⟨88, _⟩ => ⟨S2x1000, .i1⟩
  | .hbm, ⟨89, _⟩ => ⟨S2x1000x4, .f32⟩
  | .hbm, ⟨90, _⟩ => ⟨S2x1000x4, .i1⟩
  | .hbm, ⟨91, _⟩ => ⟨S_, .f32⟩
  | .hbm, ⟨92, _⟩ => ⟨S2x1000x4, .f32⟩
  | .hbm, ⟨93, _⟩ => ⟨S2x1000x4, .f32⟩
  | .hbm, ⟨94, _⟩ => ⟨S_, .i32⟩
  | .hbm, ⟨95, _⟩ => ⟨S2x1000, .i32⟩
  | .hbm, ⟨96, _⟩ => ⟨S2x1000, .i1⟩
  | .hbm, ⟨97, _⟩ => ⟨S_, .i32⟩
  | .hbm, ⟨98, _⟩ => ⟨S2x1000, .i32⟩
  | .hbm, ⟨99, _⟩ => ⟨S2x1000, .i32⟩
  | .hbm, ⟨100, _⟩ => ⟨S2x1000, .i32⟩
  | .hbm, ⟨101, _⟩ => ⟨S2x1000x1, .i32⟩
  | .hbm, ⟨102, _⟩ => ⟨S2x1000x2, .f32⟩
  | .hbm, ⟨103, _⟩ => ⟨S2x1000x1, .f32⟩
  | .hbm, ⟨104, _⟩ => ⟨S2x1000x1, .f32⟩
  | .hbm, ⟨105, _⟩ => ⟨S2x1000x8, .f32⟩
  | .hbm, ⟨106, _⟩ => ⟨S2x8x1000, .f32⟩
  | .hbm, ⟨107, _⟩ => ⟨S_, .i32⟩
  | .hbm, ⟨108, _⟩ => ⟨S_, .f32⟩
  | .hbm, ⟨109, _⟩ => ⟨S2x8x1024, .f32⟩
  | .hbm, ⟨110, _⟩ => ⟨S2x100x6, .f32⟩
  | .local _ .vmem, ⟨0, _⟩ => ⟨S2x8x1024, .f32⟩
  | .local _ .vmem, ⟨1, _⟩ => ⟨S2x100x6, .f32⟩
  | .local _ .smem, ⟨0, _⟩ => ⟨S1x2, .i32⟩
  | _, _ => ⟨S4096x2, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_v13 : Ref sig .tc := ⟨.hbm, 24, rfl⟩
abbrev main_values : Ref sig .tc := ⟨.hbm, 25, rfl⟩
abbrev main_indices : Ref sig .tc := ⟨.hbm, 26, rfl⟩
abbrev main_c : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v14 : Ref sig .tc := ⟨.hbm, 44, rfl⟩
abbrev main_c_3 : Ref sig .tc := ⟨.hbm, 45, rfl⟩
abbrev main_call2_v0 : Ref sig .tc := ⟨.hbm, 46, rfl⟩
abbrev main_call2_c : Ref sig .tc := ⟨.hbm, 47, rfl⟩
abbrev main_call2_v1 : Ref sig .tc := ⟨.hbm, 48, rfl⟩
abbrev main_call2_c_0 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_c_1 : Ref sig .tc := ⟨.hbm, 53, rfl⟩
abbrev main_call2_v5 : Ref sig .tc := ⟨.hbm, 54, rfl⟩
abbrev main_call2_v6 : Ref sig .tc := ⟨.hbm, 55, rfl⟩
abbrev main_call2_c_2 : Ref sig .tc := ⟨.hbm, 56, rfl⟩
abbrev main_call2_v7 : Ref sig .tc := ⟨.hbm, 57, rfl⟩
abbrev main_call2_v8 : Ref sig .tc := ⟨.hbm, 58, rfl⟩
abbrev main_call2_c_3 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_v12 : Ref sig .tc := ⟨.hbm, 63, rfl⟩
abbrev main_call2_v13 : Ref sig .tc := ⟨.hbm, 64, rfl⟩
abbrev main_call2_v14 : Ref sig .tc := ⟨.hbm, 65, rfl⟩
abbrev main_v15 : Ref sig .tc := ⟨.hbm, 66, rfl⟩
abbrev main_c_4 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_c_1 : Ref sig .tc := ⟨.hbm, 79, rfl⟩
abbrev main_call3_c_2 : Ref sig .tc := ⟨.hbm, 80, rfl⟩
abbrev main_call3_v5 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_call3_c_3 : Ref sig .tc := ⟨.hbm, 87, rfl⟩
abbrev main_call3_v11 : Ref sig .tc := ⟨.hbm, 88, rfl⟩
abbrev main_call3_v12 : Ref sig .tc := ⟨.hbm, 89, rfl⟩
abbrev main_call3_v13 : Ref sig .tc := ⟨.hbm, 90, rfl⟩
abbrev main_call3_cst : Ref sig .tc := ⟨.hbm, 91, rfl⟩
abbrev main_call3_v14 : Ref sig .tc := ⟨.hbm, 92, rfl⟩
abbrev main_v20 : Ref sig .tc := ⟨.hbm, 93, rfl⟩
abbrev main_c_5 : Ref sig .tc := ⟨.hbm, 94, rfl⟩
abbrev main_v21 : Ref sig .tc := ⟨.hbm, 95, rfl⟩
abbrev main_v22 : Ref sig .tc := ⟨.hbm, 96, rfl⟩
abbrev main_c_6 : Ref sig .tc := ⟨.hbm, 97, rfl⟩
abbrev main_v23 : Ref sig .tc := ⟨.hbm, 98, rfl⟩
abbrev main_v24 : Ref sig .tc := ⟨.hbm, 99, rfl⟩
abbrev main_v25 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_v31 : Ref sig .tc := ⟨.hbm, 106, rfl⟩
abbrev main_c_7 : Ref sig .tc := ⟨.hbm, 107, rfl⟩
abbrev main_call4_v0 : Ref sig .tc := ⟨.hbm, 108, rfl⟩
abbrev main_v32 : Ref sig .tc := ⟨.hbm, 109, rfl⟩
abbrev main_v33 : Ref sig .tc := ⟨.hbm, 110, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .smem S1x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x100x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x2 : Shape := ⟨2, ![4096, 2]⟩
abbrev S2x80x64x64 : Shape := ⟨4, ![2, 80, 64, 64]⟩
abbrev S2x4x64x64 : Shape := ⟨4, ![2, 4, 64, 64]⟩
abbrev S2x1x64x64 : Shape := ⟨4, ![2, 1, 64, 64]⟩
abbrev S1x2 : Shape := ⟨2, ![1, 2]⟩
abbrev S_ : Shape := ⟨0, ![]⟩
abbrev S2x64x64x80 : Shape := ⟨4, ![2, 64, 64, 80]⟩
abbrev S2x4096x80 : Shape := ⟨3, ![2, 4096, 80]⟩
abbrev S2x64x64x4 : Shape := ⟨4, ![2, 64, 64, 4]⟩
abbrev S2x4096x4 : Shape := ⟨3, ![2, 4096, 4]⟩
abbrev S2x327680 : Shape := ⟨2, ![2, 327680]⟩
abbrev S2x1000 : Shape := ⟨2, ![2, 1000]⟩
abbrev S2x1000x1 : Shape := ⟨3, ![2, 1000, 1]⟩
abbrev S1 : Shape := ⟨1, ![1]⟩
abbrev S1x1x1 : Shape := ⟨3, ![1, 1, 1]⟩
abbrev S2x1000x4 : Shape := ⟨3, ![2, 1000, 4]⟩
abbrev S2x1000x2 : Shape := ⟨3, ![2, 1000, 2]⟩
abbrev S1x1 : Shape := ⟨2, ![1, 1]⟩
abbrev S2x1000x6 : Shape := ⟨3, ![2, 1000, 6]⟩
abbrev S2x1x1000 : Shape := ⟨3, ![2, 1, 1000]⟩
abbrev S2x1000x1000 : Shape := ⟨3, ![2, 1000, 1000]⟩
abbrev S1000 : Shape := ⟨1, ![1000]⟩
abbrev S2x1 : Shape := ⟨2, ![2, 1]⟩
abbrev S1x1000 : Shape := ⟨2, ![1, 1000]⟩
abbrev S2x100 : Shape := ⟨2, ![2, 100]⟩
abbrev S2x100x1 : Shape := ⟨3, ![2, 100, 1]⟩
abbrev S2x100x6 : Shape := ⟨3, ![2, 100, 6]⟩

abbrev nBuf : Space → Nat
  | .hbm => 342
  | .vmem => 0
  | .smem => 0
  | _ => 0

abbrev hbmTy0_0 (i : Nat) : BufTy := match i % 128 with
  | 0 => ⟨S4096x2, .f32⟩
  | 1 => ⟨S2x80x64x64, .f32⟩
  | 2 => ⟨S2x4x64x64, .f32⟩
  | 3 => ⟨S2x1x64x64, .f32⟩
  | 4 => ⟨S1x2, .i32⟩
  | 5 => ⟨S2x80x64x64, .f32⟩
  | 6 => ⟨S2x80x64x64, .f32⟩
  | 7 => ⟨S_, .f32⟩
  | 8 => ⟨S2x80x64x64, .f32⟩
  | 9 => ⟨S2x80x64x64, .f32⟩
  | 10 => ⟨S_, .f32⟩
  | 11 => ⟨S2x80x64x64, .f32⟩
  | 12 => ⟨S2x80x64x64, .f32⟩
  | 13 => ⟨S2x64x64x80, .f32⟩
  | 14 => ⟨S2x4096x80, .f32⟩
  | 15 => ⟨S2x64x64x4, .f32⟩
  | 16 => ⟨S2x4096x4, .f32⟩
  | 17 => ⟨S_, .f32⟩
  | 18 => ⟨S2x4096x80, .f32⟩
  | 19 => ⟨S2x4096x80, .i1⟩
  | 20 => ⟨S_, .f32⟩
  | 21 => ⟨S_, .f32⟩
  | 22 => ⟨S2x4096x80, .f32⟩
  | 23 => ⟨S2x4096x80, .f32⟩
  | 24 => ⟨S2x327680, .f32⟩
  | 25 => ⟨S2x1000, .f32⟩
  | 26 => ⟨S2x1000, .i32⟩
  | 27 => ⟨S_, .i32⟩
  | 28 => ⟨S_, .i32⟩
  | 29 => ⟨S2x1000, .i32⟩
  | 30 => ⟨S2x1000, .i32⟩
  | 31 => ⟨S2x1000, .i32⟩
  | 32 => ⟨S_, .i32⟩
  | 33 => ⟨S2x1000, .i32⟩
  | 34 => ⟨S2x1000, .i1⟩
  | 35 => ⟨S2x1000, .i32⟩
  | 36 => ⟨S2x1000, .i32⟩
  | 37 => ⟨S_, .i32⟩
  | 38 => ⟨S2x1000, .i32⟩
  | 39 => ⟨S2x1000, .i1⟩
  | 40 => ⟨S2x1000, .i1⟩
  | 41 => ⟨S_, .i32⟩
  | 42 => ⟨S2x1000, .i32⟩
  | 43 => ⟨S2x1000, .i32⟩
  | 44 => ⟨S2x1000, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S2x1000, .i32⟩
  | 52 => ⟨S2x1000, .i32⟩
  | 53 => ⟨S_, .i32⟩
  | 54 => ⟨S2x1000, .i32⟩
  | 55 => ⟨S2x1000, .i1⟩
  | 56 => ⟨S_, .i32⟩
  | 57 => ⟨S2x1000, .i32⟩
  | 58 => ⟨S2x1000, .i1⟩
  | 59 => ⟨S_, .i32⟩
  | 60 => ⟨S_, .i1⟩
  | 61 => ⟨S2x1000, .i1⟩
  | 62 => ⟨S2x1000, .i1⟩
  | 63 => ⟨S2x1000, .i1⟩
  | 64 => ⟨S2x1000, .i32⟩
  | 65 => ⟨S2x1000, .i32⟩
  | 66 => ⟨S2x1000, .i32⟩
  | 67 => ⟨S_, .i32⟩
  | 68 => ⟨S2x1000, .i32⟩
  | 69 => ⟨S2x1000, .i32⟩
  | 70 => ⟨S2x1000, .f32⟩
  | 71 => ⟨S2x1000x1, .i32⟩
  | 72 => ⟨S_, .i32⟩
  | 73 => ⟨S2x1000x1, .i32⟩
  | 74 => ⟨S2x1000x1, .i1⟩
  | 75 => ⟨S_, .i32⟩
  | 76 => ⟨S2x1000x1, .i32⟩
  | 77 => ⟨S2x1000x1, .i32⟩
  | 78 => ⟨S2x1000x1, .i32⟩
  | 79 => ⟨S1, .i32⟩
  | 80 => ⟨S_, .i32⟩
  | 81 => ⟨S2x1000x1, .i32⟩
  | 82 => ⟨S2x1000x1, .i1⟩
  | 83 => ⟨S1x1x1, .i32⟩
  | 84 => ⟨S2x1000x1, .i32⟩
  | 85 => ⟨S2x1000x1, .i1⟩
  | 86 => ⟨S2x1000x1, .i1⟩
  | 87 => ⟨S_, .i1⟩
  | 88 => ⟨S2x1000, .i1⟩
  | 89 => ⟨S2x1000x4, .f32⟩
  | 90 => ⟨S2x1000x4, .i1⟩
  | 91 => ⟨S_, .f32⟩
  | 92 => ⟨S2x1000x4, .f32⟩
  | 93 => ⟨S2x1000x4, .f32⟩
  | 94 => ⟨S_, .i32⟩
  | 95 => ⟨S2x1000, .i32⟩
  | 96 => ⟨S2x1000, .i1⟩
  | 97 => ⟨S_, .i32⟩
  | 98 => ⟨S2x1000, .i32⟩
  | 99 => ⟨S2x1000, .i32⟩
  | 100 => ⟨S2x1000, .i32⟩
  | 101 => ⟨S2x1000x1, .i32⟩
  | 102 => ⟨S2x1000x2, .f32⟩
  | 103 => ⟨S1x1, .i32⟩
  | 104 => ⟨S_, .i32⟩
  | 105 => ⟨S_, .f32⟩
  | 106 => ⟨S1x1, .i32⟩
  | 107 => ⟨S_, .i32⟩
  | 108 => ⟨S_, .f32⟩
  | 109 => ⟨S2x1000x1, .f32⟩
  | 110 => ⟨S2x1000, .f32⟩
  | 111 => ⟨S2x1000x1, .f32⟩
  | 112 => ⟨S2x1000, .f32⟩
  | 113 => ⟨S2x1000, .f32⟩
  | 114 => ⟨S_, .f32⟩
  | 115 => ⟨S_, .f32⟩
  | 116 => ⟨S_, .f32⟩
  | 117 => ⟨S_, .f32⟩
  | 118 => ⟨S2x1000, .f32⟩
  | 119 => ⟨S2x1000, .f32⟩
  | 120 => ⟨S2x1000, .f32⟩
  | 121 => ⟨S2x1000, .f32⟩
  | 122 => ⟨S2x1000x1, .f32⟩
  | 123 => ⟨S2x1000, .f32⟩
  | 124 => ⟨S2x1000x1, .f32⟩
  | 125 => ⟨S2x1000, .f32⟩
  | 126 => ⟨S2x1000, .f32⟩
  | 127 => ⟨S_, .f32⟩
  | _ => ⟨S4096x2, .f32⟩

abbrev hbmTy0_1 (i : Nat) : BufTy := match i % 128 with
  | 0 => ⟨S_, .f32⟩
  | 1 => ⟨S_, .f32⟩
  | 2 => ⟨S_, .f32⟩
  | 3 => ⟨S2x1000, .f32⟩
  | 4 => ⟨S2x1000, .f32⟩
  | 5 => ⟨S2x1000, .f32⟩
  | 6 => ⟨S2x1000, .f32⟩
  | 7 => ⟨S2x1000x1, .f32⟩
  | 8 => ⟨S2x1000, .f32⟩
  | 9 => ⟨S2x1000x1, .f32⟩
  | 10 => ⟨S2x1000, .f32⟩
  | 11 => ⟨S2x1000, .f32⟩
  | 12 => ⟨S_, .f32⟩
  | 13 => ⟨S_, .f32⟩
  | 14 => ⟨S_, .f32⟩
  | 15 => ⟨S_, .f32⟩
  | 16 => ⟨S2x1000, .f32⟩
  | 17 => ⟨S2x1000, .f32⟩
  | 18 => ⟨S2x1000, .f32⟩
  | 19 => ⟨S2x1000, .f32⟩
  | 20 => ⟨S2x1000x1, .f32⟩
  | 21 => ⟨S2x1000, .f32⟩
  | 22 => ⟨S2x1000x1, .f32⟩
  | 23 => ⟨S2x1000, .f32⟩
  | 24 => ⟨S2x1000, .f32⟩
  | 25 => ⟨S_, .f32⟩
  | 26 => ⟨S_, .f32⟩
  | 27 => ⟨S_, .f32⟩
  | 28 => ⟨S_, .f32⟩
  | 29 => ⟨S2x1000, .f32⟩
  | 30 => ⟨S2x1000, .f32⟩
  | 31 => ⟨S2x1000, .f32⟩
  | 32 => ⟨S2x1000, .f32⟩
  | 33 => ⟨S2x1000, .f32⟩
  | 34 => ⟨S_, .f32⟩
  | 35 => ⟨S2x1000, .f32⟩
  | 36 => ⟨S2x1000, .f32⟩
  | 37 => ⟨S_, .f32⟩
  | 38 => ⟨S2x1000, .f32⟩
  | 39 => ⟨S2x1000, .i1⟩
  | 40 => ⟨S2x1000, .f32⟩
  | 41 => ⟨S_, .f32⟩
  | 42 => ⟨S2x1000, .f32⟩
  | 43 => ⟨S2x1000, .f32⟩
  | 44 => ⟨S_, .f32⟩
  | 45 => ⟨S2x1000, .f32⟩
  | 46 => ⟨S2x1000, .i1⟩
  | 47 => ⟨S2x1000, .i1⟩
  | 48 => ⟨S_, .f32⟩
  | 49 => ⟨S2x1000, .f32⟩
  | 50 => ⟨S2x1000, .i1⟩
  | 51 => ⟨S2x1000, .i1⟩
  | 52 => ⟨S2x1000, .f32⟩
  | 53 => ⟨S2x1000, .f32⟩
  | 54 => ⟨S2x1000x1, .f32⟩
  | 55 => ⟨S2x1000x1, .f32⟩
  | 56 => ⟨S2x1000x1, .f32⟩
  | 57 => ⟨S2x1000x1, .f32⟩
  | 58 => ⟨S2x1000x1, .f32⟩
  | 59 => ⟨S2x1000x1, .f32⟩
  | 60 => ⟨S2x1000x6, .f32⟩
  | 61 => ⟨S2x1000, .f32⟩
  | 62 => ⟨S2x1000, .i32⟩
  | 63 => ⟨S2x1000, .f32⟩
  | 64 => ⟨S2x1000, .i32⟩
  | 65 => ⟨S2x1000x1, .i32⟩
  | 66 => ⟨S_, .i32⟩
  | 67 => ⟨S2x1000x1, .i32⟩
  | 68 => ⟨S2x1000x1, .i1⟩
  | 69 => ⟨S_, .i32⟩
  | 70 => ⟨S2x1000x1, .i32⟩
  | 71 => ⟨S2x1000x1, .i32⟩
  | 72 => ⟨S2x1000x1, .i32⟩
  | 73 => ⟨S2x1000x6, .f32⟩
  | 74 => ⟨S2x1000x1, .f32⟩
  | 75 => ⟨S2x1000, .f32⟩
  | 76 => ⟨S2x1000x1, .f32⟩
  | 77 => ⟨S2x1000, .f32⟩
  | 78 => ⟨S2x1000x1, .f32⟩
  | 79 => ⟨S2x1000, .f32⟩
  | 80 => ⟨S2x1000x1, .f32⟩
  | 81 => ⟨S2x1000, .f32⟩
  | 82 => ⟨S2x1000x1, .f32⟩
  | 83 => ⟨S2x1000, .f32⟩
  | 84 => ⟨S2x1000x1, .f32⟩
  | 85 => ⟨S2x1000, .f32⟩
  | 86 => ⟨S_, .f32⟩
  | 87 => ⟨S2x1000, .f32⟩
  | 88 => ⟨S2x1000, .f32⟩
  | 89 => ⟨S2x1000, .f32⟩
  | 90 => ⟨S2x1000, .f32⟩
  | 91 => ⟨S2x1000, .f32⟩
  | 92 => ⟨S2x1000, .f32⟩
  | 93 => ⟨S2x1000, .f32⟩
  | 94 => ⟨S_, .f32⟩
  | 95 => ⟨S2x1000, .f32⟩
  | 96 => ⟨S2x1000, .f32⟩
  | 97 => ⟨S2x1000, .f32⟩
  | 98 => ⟨S_, .f32⟩
  | 99 => ⟨S2x1000, .f32⟩
  | 100 => ⟨S2x1000, .f32⟩
  | 101 => ⟨S2x1000, .f32⟩
  | 102 => ⟨S2x1000x1, .f32⟩
  | 103 => ⟨S2x1x1000, .f32⟩
  | 104 => ⟨S2x1000x1000, .f32⟩
  | 105 => ⟨S2x1000x1000, .f32⟩
  | 106 => ⟨S2x1000x1000, .f32⟩
  | 107 => ⟨S2x1000x1, .f32⟩
  | 108 => ⟨S2x1x1000, .f32⟩
  | 109 => ⟨S2x1000x1000, .f32⟩
  | 110 => ⟨S2x1000x1000, .f32⟩
  | 111 => ⟨S2x1000x1000, .f32⟩
  | 112 => ⟨S2x1000x1, .f32⟩
  | 113 => ⟨S2x1x1000, .f32⟩
  | 114 => ⟨S2x1000x1000, .f32⟩
  | 115 => ⟨S2x1000x1000, .f32⟩
  | 116 => ⟨S2x1000x1000, .f32⟩
  | 117 => ⟨S2x1000x1, .f32⟩
  | 118 => ⟨S2x1x1000, .f32⟩
  | 119 => ⟨S2x1000x1000, .f32⟩
  | 120 => ⟨S2x1000x1000, .f32⟩
  | 121 => ⟨S2x1000x1000, .f32⟩
  | 122 => ⟨S2x1000x1000, .f32⟩
  | 123 => ⟨S_, .f32⟩
  | 124 => ⟨S2x1000x1000, .f32⟩
  | 125 => ⟨S2x1000x1000, .f32⟩
  | 126 => ⟨S_, .f32⟩
  | 127 => ⟨S2x1000x1000, .f32⟩
  | _ => ⟨S4096x2, .f32⟩

abbrev hbmTy0_2 (i : Nat) : BufTy := match i % 128 with
  | 0 => ⟨S2x1000x1000, .f32⟩
  | 1 => ⟨S2x1000x1000, .f32⟩
  | 2 => ⟨S_, .f32⟩
  | 3 => ⟨S2x1000x1000, .f32⟩
  | 4 => ⟨S2x1000x1000, .f32⟩
  | 5 => ⟨S_, .f32⟩
  | 6 => ⟨S2x1000x1000, .f32⟩
  | 7 => ⟨S2x1000x1000, .f32⟩
  | 8 => ⟨S2x1000x1000, .f32⟩
  | 9 => ⟨S2x1000x1, .f32⟩
  | 10 => ⟨S2x1x1000, .f32⟩
  | 11 => ⟨S2x1000x1000, .f32⟩
  | 12 => ⟨S2x1000x1000, .f32⟩
  | 13 => ⟨S2x1000x1000, .f32⟩
  | 14 => ⟨S2x1000x1000, .f32⟩
  | 15 => ⟨S_, .f32⟩
  | 16 => ⟨S2x1000x1000, .f32⟩
  | 17 => ⟨S2x1000x1000, .f32⟩
  | 18 => ⟨S2x1000x1000, .f32⟩
  | 19 => ⟨S1000, .i32⟩
  | 20 => ⟨S_, .i1⟩
  | 21 => ⟨S2x1000, .i1⟩
  | 22 => ⟨S_, .i32⟩
  | 23 => ⟨S_, .i32⟩
  | 24 => ⟨S2x1000x1000, .f32⟩
  | 25 => ⟨S1000, .i32⟩
  | 26 => ⟨S_, .i32⟩
  | 27 => ⟨S_, .i32⟩
  | 28 => ⟨S2x1000, .i1⟩
  | 29 => ⟨S_, .i32⟩
  | 30 => ⟨S_, .i1⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S2x1x1000, .f32⟩
  | 42 => ⟨S2x1000, .f32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i32⟩
  | 50 => ⟨S2x1, .i1⟩
  | 51 => ⟨S_, .f32⟩
  | 52 => ⟨S2x1000, .f32⟩
  | 53 => ⟨S2x1000, .i1⟩
  | 54 => ⟨S2x1000, .i1⟩
  | 55 => ⟨S2x1000, .i1⟩
  | 56 => ⟨S_, .i32⟩
  | 57 => ⟨S1000, .i32⟩
  | 58 => ⟨S1000, .i1⟩
  | 59 => ⟨S1x1000, .i1⟩
  | 60 => ⟨S2x1000, .i1⟩
  | 61 => ⟨S2x1000, .i1⟩
  | 62 => ⟨S2x1000, .i1⟩
  | 63 => ⟨S2x1000, .i1⟩
  | 64 => ⟨S_, .i32⟩
  | 65 => ⟨S_, .i32⟩
  | 66 => ⟨S2x1000, .f32⟩
  | 67 => ⟨S2x1000, .f32⟩
  | 68 => ⟨S2x100, .f32⟩
  | 69 => ⟨S2x100, .i32⟩
  | 70 => ⟨S2x1000x1, .f32⟩
  | 71 => ⟨S2x1000x1, .f32⟩
  | 72 => ⟨S2x1000x1, .f32⟩
  | 73 => ⟨S2x1000x1, .f32⟩
  | 74 => ⟨S2x1000x1, .f32⟩
  | 75 => ⟨S2x1000x1, .f32⟩
  | 76 => ⟨S2x1000x6, .f32⟩
  | 77 => ⟨S2x100x1, .i32⟩
  | 78 => ⟨S_, .i32⟩
  | 79 => ⟨S2x100x1, .i32⟩
  | 80 => ⟨S2x100x1, .i1⟩
  | 81 => ⟨S_, .i32⟩
  | 82 => ⟨S2x100x1, .i32⟩
  | 83 => ⟨S2x100x1, .i32⟩
  | 84 => ⟨S2x100x1, .i32⟩
  | 85 => ⟨S2x100x6, .f32⟩
  | _ => ⟨S4096x2, .f32⟩

abbrev hbmTy (i : Nat) : BufTy := match i / 128 with
  | 0 => hbmTy0_0 i
  | 1 => hbmTy0_1 i
  | 2 => hbmTy0_2 i
  | _ => ⟨S4096x2, .f32⟩

abbrev bufTy : (tb : Table) → Fin (tcTables nBuf tb) → BufTy
  | .hbm, ⟨i, _⟩ => hbmTy i
  | _, _ => ⟨S4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_v13 : Ref sig .tc := ⟨.hbm, 24, rfl⟩
abbrev main_values : Ref sig .tc := ⟨.hbm, 25, rfl⟩
abbrev main_indices : Ref sig .tc := ⟨.hbm, 26, rfl⟩
abbrev main_c : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v14 : Ref sig .tc := ⟨.hbm, 44, rfl⟩
abbrev main_c_3 : Ref sig .tc := ⟨.hbm, 45, rfl⟩
abbrev main_call2_v0 : Ref sig .tc := ⟨.hbm, 46, rfl⟩
abbrev main_call2_c : Ref sig .tc := ⟨.hbm, 47, rfl⟩
abbrev main_call2_v1 : Ref sig .tc := ⟨.hbm, 48, rfl⟩
abbrev main_call2_c_0 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_c_1 : Ref sig .tc := ⟨.hbm, 53, rfl⟩
abbrev main_call2_v5 : Ref sig .tc := ⟨.hbm, 54, rfl⟩
abbrev main_call2_v6 : Ref sig .tc := ⟨.hbm, 55, rfl⟩
abbrev main_call2_c_2 : Ref sig .tc := ⟨.hbm, 56, rfl⟩
abbrev main_call2_v7 : Ref sig .tc := ⟨.hbm, 57, rfl⟩
abbrev main_call2_v8 : Ref sig .tc := ⟨.hbm, 58, rfl⟩
abbrev main_call2_c_3 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_v12 : Ref sig .tc := ⟨.hbm, 63, rfl⟩
abbrev main_call2_v13 : Ref sig .tc := ⟨.hbm, 64, rfl⟩
abbrev main_call2_v14 : Ref sig .tc := ⟨.hbm, 65, rfl⟩
abbrev main_v15 : Ref sig .tc := ⟨.hbm, 66, rfl⟩
abbrev main_c_4 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_c_1 : Ref sig .tc := ⟨.hbm, 79, rfl⟩
abbrev main_call3_c_2 : Ref sig .tc := ⟨.hbm, 80, rfl⟩
abbrev main_call3_v5 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_call3_c_3 : Ref sig .tc := ⟨.hbm, 87, rfl⟩
abbrev main_call3_v11 : Ref sig .tc := ⟨.hbm, 88, rfl⟩
abbrev main_call3_v12 : Ref sig .tc := ⟨.hbm, 89, rfl⟩
abbrev main_call3_v13 : Ref sig .tc := ⟨.hbm, 90, rfl⟩
abbrev main_call3_cst : Ref sig .tc := ⟨.hbm, 91, rfl⟩
abbrev main_call3_v14 : Ref sig .tc := ⟨.hbm, 92, rfl⟩
abbrev main_v20 : Ref sig .tc := ⟨.hbm, 93, rfl⟩
abbrev main_c_5 : Ref sig .tc := ⟨.hbm, 94, rfl⟩
abbrev main_v21 : Ref sig .tc := ⟨.hbm, 95, rfl⟩
abbrev main_v22 : Ref sig .tc := ⟨.hbm, 96, rfl⟩
abbrev main_c_6 : Ref sig .tc := ⟨.hbm, 97, rfl⟩
abbrev main_v23 : Ref sig .tc := ⟨.hbm, 98, rfl⟩
abbrev main_v24 : Ref sig .tc := ⟨.hbm, 99, rfl⟩
abbrev main_v25 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_v31 : Ref sig .tc := ⟨.hbm, 106, rfl⟩
abbrev main_v32 : Ref sig .tc := ⟨.hbm, 107, rfl⟩
abbrev main_v33 : Ref sig .tc := ⟨.hbm, 108, rfl⟩
abbrev main_v34 : Ref sig .tc := ⟨.hbm, 109, rfl⟩
abbrev main_v35 : Ref sig .tc := ⟨.hbm, 110, rfl⟩
abbrev main_v36 : Ref sig .tc := ⟨.hbm, 111, rfl⟩
abbrev main_v37 : Ref sig .tc := ⟨.hbm, 112, rfl⟩
abbrev main_v38 : Ref sig .tc := ⟨.hbm, 113, rfl⟩
abbrev main_cst_7 : Ref sig .tc := ⟨.hbm, 114, rfl⟩
abbrev main_v39 : Ref sig .tc := ⟨.hbm, 115, rfl⟩
abbrev main_cst_8 : Ref sig .tc := ⟨.hbm, 116, rfl⟩
abbrev main_call4_v0 : Ref sig .tc := ⟨.hbm, 117, rfl⟩
abbrev main_call4_v1 : Ref sig .tc := ⟨.hbm, 118, rfl⟩
abbrev main_call4_v2 : Ref sig .tc := ⟨.hbm, 119, rfl⟩
abbrev main_call4_v3 : Ref sig .tc := ⟨.hbm, 120, rfl⟩
abbrev main_v40 : Ref sig .tc := ⟨.hbm, 121, rfl⟩
abbrev main_v41 : Ref sig .tc := ⟨.hbm, 122, rfl⟩
abbrev main_v42 : Ref sig .tc := ⟨.hbm, 123, rfl⟩
abbrev main_v43 : Ref sig .tc := ⟨.hbm, 124, rfl⟩
abbrev main_v44 : Ref sig .tc := ⟨.hbm, 125, rfl⟩
abbrev main_v45 : Ref sig .tc := ⟨.hbm, 126, rfl⟩
abbrev main_cst_9 : Ref sig .tc := ⟨.hbm, 127, rfl⟩
abbrev main_v46 : Ref sig .tc := ⟨.hbm, 128, rfl⟩
abbrev main_cst_10 : Ref sig .tc := ⟨.hbm, 129, rfl⟩
abbrev main_call5_v0 : Ref sig .tc := ⟨.hbm, 130, rfl⟩
abbrev main_call5_v1 : Ref sig .tc := ⟨.hbm, 131, rfl⟩
abbrev main_call5_v2 : Ref sig .tc := ⟨.hbm, 132, rfl⟩
abbrev main_call5_v3 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_cst_11 : Ref sig .tc := ⟨.hbm, 140, rfl⟩
abbrev main_v53 : Ref sig .tc := ⟨.hbm, 141, rfl⟩
abbrev main_cst_12 : Ref sig .tc := ⟨.hbm, 142, rfl⟩
abbrev main_call6_v0 : Ref sig .tc := ⟨.hbm, 143, rfl⟩
abbrev main_call6_v1 : Ref sig .tc := ⟨.hbm, 144, rfl⟩
abbrev main_call6_v2 : Ref sig .tc := ⟨.hbm, 145, rfl⟩
abbrev main_call6_v3 : Ref sig .tc := ⟨.hbm, 146, rfl⟩
abbrev main_v54 : Ref sig .tc := ⟨.hbm, 147, rfl⟩
abbrev main_v55 : Ref sig .tc := ⟨.hbm, 148, rfl⟩
abbrev main_v56 : Ref sig .tc := ⟨.hbm, 149, rfl⟩
abbrev main_v57 : Ref sig .tc := ⟨.hbm, 150, rfl⟩
abbrev main_v58 : Ref sig .tc := ⟨.hbm, 151, rfl⟩
abbrev main_v59 : Ref sig .tc := ⟨.hbm, 152, rfl⟩
abbrev main_cst_13 : Ref sig .tc := ⟨.hbm, 153, rfl⟩
abbrev main_v60 : Ref sig .tc := ⟨.hbm, 154, rfl⟩
abbrev main_cst_14 : Ref sig .tc := ⟨.hbm, 155, rfl⟩
abbrev main_call7_v0 : Ref sig .tc := ⟨.hbm, 156, rfl⟩
abbrev main_call7_v1 : Ref sig .tc := ⟨.hbm, 157, rfl⟩
abbrev main_call7_v2 : Ref sig .tc := ⟨.hbm, 158, rfl⟩
abbrev main_call7_v3 : Ref sig .tc := ⟨.hbm, 159, rfl⟩
abbrev main_v61 : Ref sig .tc := ⟨.hbm, 160, rfl⟩
abbrev main_v62 : Ref sig .tc := ⟨.hbm, 161, rfl⟩
abbrev main_cst_15 : Ref sig .tc := ⟨.hbm, 162, rfl⟩
abbrev main_v63 : Ref sig .tc := ⟨.hbm, 163, rfl⟩
abbrev main_v64 : Ref sig .tc := ⟨.hbm, 164, rfl⟩
abbrev main_cst_16 : Ref sig .tc := ⟨.hbm, 165, rfl⟩
abbrev main_v65 : Ref sig .tc := ⟨.hbm, 166, rfl⟩
abbrev main_v66 : Ref sig .tc := ⟨.hbm, 167, rfl⟩
abbrev main_v67 : Ref sig .tc := ⟨.hbm, 168, rfl⟩
abbrev main_cst_17 : Ref sig .tc := ⟨.hbm, 169, rfl⟩
abbrev main_v68 : Ref sig .tc := ⟨.hbm, 170, rfl⟩
abbrev main_v69 : Ref sig .tc := ⟨.hbm, 171, rfl⟩
abbrev main_cst_18 : Ref sig .tc := ⟨.hbm, 172, rfl⟩
abbrev main_v70 : Ref sig .tc := ⟨.hbm, 173, rfl⟩
abbrev main_v71 : Ref sig .tc := ⟨.hbm, 174, rfl⟩
abbrev main_v72 : Ref sig .tc := ⟨.hbm, 175, rfl⟩
abbrev main_cst_19 : Ref sig .tc := ⟨.hbm, 176, rfl⟩
abbrev main_v73 : Ref sig .tc := ⟨.hbm, 177, rfl⟩
abbrev main_v74 : Ref sig .tc := ⟨.hbm, 178, rfl⟩
abbrev main_v75 : Ref sig .tc := ⟨.hbm, 179, rfl⟩
abbrev main_v76 : Ref sig .tc := ⟨.hbm, 180, rfl⟩
abbrev main_v77 : Ref sig .tc := ⟨.hbm, 181, rfl⟩
abbrev main_v78 : Ref sig .tc := ⟨.hbm, 182, rfl⟩
abbrev main_v79 : Ref sig .tc := ⟨.hbm, 183, rfl⟩
abbrev main_v80 : Ref sig .tc := ⟨.hbm, 184, rfl⟩
abbrev main_v81 : Ref sig .tc := ⟨.hbm, 185, rfl⟩
abbrev main_v82 : Ref sig .tc := ⟨.hbm, 186, rfl⟩
abbrev main_v83 : Ref sig .tc := ⟨.hbm, 187, rfl⟩
abbrev main_v84 : Ref sig .tc := ⟨.hbm, 188, rfl⟩
abbrev main_v85 : Ref sig .tc := ⟨.hbm, 189, rfl⟩
abbrev main_call8_v0 : Ref sig .tc := ⟨.hbm, 190, rfl⟩
abbrev main_call8_v1_0 : Ref sig .tc := ⟨.hbm, 191, rfl⟩
abbrev main_v86 : Ref sig .tc := ⟨.hbm, 192, rfl⟩
abbrev main_v87 : Ref sig .tc := ⟨.hbm, 193, rfl⟩
abbrev main_call9_c : Ref sig .tc := ⟨.hbm, 194, rfl⟩
abbrev main_call9_v0 : Ref sig .tc := ⟨.hbm, 195, rfl⟩
abbrev main_call9_v1 : Ref sig .tc := ⟨.hbm, 196, rfl⟩
abbrev main_call9_c_0 : Ref sig .tc := ⟨.hbm, 197, rfl⟩
abbrev main_call9_v2 : Ref sig .tc := ⟨.hbm, 198, rfl⟩
abbrev main_call9_v3 : Ref sig .tc := ⟨.hbm, 199, rfl⟩
abbrev main_call9_v4 : Ref sig .tc := ⟨.hbm, 200, rfl⟩
abbrev main_v88 : Ref sig .tc := ⟨.hbm, 201, rfl⟩
abbrev main_v89 : Ref sig .tc := ⟨.hbm, 202, rfl⟩
abbrev main_v90 : Ref sig .tc := ⟨.hbm, 203, rfl⟩
abbrev main_v91 : Ref sig .tc := ⟨.hbm, 204, rfl⟩
abbrev main_v92 : Ref sig .tc := ⟨.hbm, 205, rfl⟩
abbrev main_v93 : Ref sig .tc := ⟨.hbm, 206, rfl⟩
abbrev main_v94 : Ref sig .tc := ⟨.hbm, 207, rfl⟩
abbrev main_v95 : Ref sig .tc := ⟨.hbm, 208, rfl⟩
abbrev main_v96 : Ref sig .tc := ⟨.hbm, 209, rfl⟩
abbrev main_v97 : Ref sig .tc := ⟨.hbm, 210, rfl⟩
abbrev main_v98 : Ref sig .tc := ⟨.hbm, 211, rfl⟩
abbrev main_v99 : Ref sig .tc := ⟨.hbm, 212, rfl⟩
abbrev main_v100 : Ref sig .tc := ⟨.hbm, 213, rfl⟩
abbrev main_cst_20 : Ref sig .tc := ⟨.hbm, 214, rfl⟩
abbrev main_v101 : Ref sig .tc := ⟨.hbm, 215, rfl⟩
abbrev main_v102 : Ref sig .tc := ⟨.hbm, 216, rfl⟩
abbrev main_v103 : Ref sig .tc := ⟨.hbm, 217, rfl⟩
abbrev main_v104 : Ref sig .tc := ⟨.hbm, 218, rfl⟩
abbrev main_v105 : Ref sig .tc := ⟨.hbm, 219, rfl⟩
abbrev main_v106 : Ref sig .tc := ⟨.hbm, 220, rfl⟩
abbrev main_v107 : Ref sig .tc := ⟨.hbm, 221, rfl⟩
abbrev main_cst_21 : Ref sig .tc := ⟨.hbm, 222, rfl⟩
abbrev main_v108 : Ref sig .tc := ⟨.hbm, 223, rfl⟩
abbrev main_v109 : Ref sig .tc := ⟨.hbm, 224, rfl⟩
abbrev main_v110 : Ref sig .tc := ⟨.hbm, 225, rfl⟩
abbrev main_cst_22 : Ref sig .tc := ⟨.hbm, 226, rfl⟩
abbrev main_v111 : Ref sig .tc := ⟨.hbm, 227, rfl⟩
abbrev main_v112 : Ref sig .tc := ⟨.hbm, 228, rfl⟩
abbrev main_v113 : Ref sig .tc := ⟨.hbm, 229, rfl⟩
abbrev main_v114 : Ref sig .tc := ⟨.hbm, 230, rfl⟩
abbrev main_v115 : Ref sig .tc := ⟨.hbm, 231, rfl⟩
abbrev main_v116 : Ref sig .tc := ⟨.hbm, 232, rfl⟩
abbrev main_v117 : Ref sig .tc := ⟨.hbm, 233, rfl⟩
abbrev main_v118 : Ref sig .tc := ⟨.hbm, 234, rfl⟩
abbrev main_v119 : Ref sig .tc := ⟨.hbm, 235, rfl⟩
abbrev main_v120 : Ref sig .tc := ⟨.hbm, 236, rfl⟩
abbrev main_v121 : Ref sig .tc := ⟨.hbm, 237, rfl⟩
abbrev main_v122 : Ref sig .tc := ⟨.hbm, 238, rfl⟩
abbrev main_v123 : Ref sig .tc := ⟨.hbm, 239, rfl⟩
abbrev main_v124 : Ref sig .tc := ⟨.hbm, 240, rfl⟩
abbrev main_v125 : Ref sig .tc := ⟨.hbm, 241, rfl⟩
abbrev main_v126 : Ref sig .tc := ⟨.hbm, 242, rfl⟩
abbrev main_v127 : Ref sig .tc := ⟨.hbm, 243, rfl⟩
abbrev main_v128 : Ref sig .tc := ⟨.hbm, 244, rfl⟩
abbrev main_v129 : Ref sig .tc := ⟨.hbm, 245, rfl⟩
abbrev main_v130 : Ref sig .tc := ⟨.hbm, 246, rfl⟩
abbrev main_v131 : Ref sig .tc := ⟨.hbm, 247, rfl⟩
abbrev main_v132 : Ref sig .tc := ⟨.hbm, 248, rfl⟩
abbrev main_v133 : Ref sig .tc := ⟨.hbm, 249, rfl⟩
abbrev main_v134 : Ref sig .tc := ⟨.hbm, 250, rfl⟩
abbrev main_cst_23 : Ref sig .tc := ⟨.hbm, 251, rfl⟩
abbrev main_v135 : Ref sig .tc := ⟨.hbm, 252, rfl⟩
abbrev main_v136 : Ref sig .tc := ⟨.hbm, 253, rfl⟩
abbrev main_cst_24 : Ref sig .tc := ⟨.hbm, 254, rfl⟩
abbrev main_v137 : Ref sig .tc := ⟨.hbm, 255, rfl⟩
abbrev main_v138 : Ref sig .tc := ⟨.hbm, 256, rfl⟩
abbrev main_v139 : Ref sig .tc := ⟨.hbm, 257, rfl⟩
abbrev main_cst_25 : Ref sig .tc := ⟨.hbm, 258, rfl⟩
abbrev main_v140 : Ref sig .tc := ⟨.hbm, 259, rfl⟩
abbrev main_v141 : Ref sig .tc := ⟨.hbm, 260, rfl⟩
abbrev main_cst_26 : Ref sig .tc := ⟨.hbm, 261, rfl⟩
abbrev main_v142 : Ref sig .tc := ⟨.hbm, 262, rfl⟩
abbrev main_v143 : Ref sig .tc := ⟨.hbm, 263, rfl⟩
abbrev main_v144 : Ref sig .tc := ⟨.hbm, 264, rfl⟩
abbrev main_v145 : Ref sig .tc := ⟨.hbm, 265, rfl⟩
abbrev main_v146 : Ref sig .tc := ⟨.hbm, 266, rfl⟩
abbrev main_v147 : Ref sig .tc := ⟨.hbm, 267, rfl⟩
abbrev main_v148 : Ref sig .tc := ⟨.hbm, 268, rfl⟩
abbrev main_v149 : Ref sig .tc := ⟨.hbm, 269, rfl⟩
abbrev main_v150 : Ref sig .tc := ⟨.hbm, 270, rfl⟩
abbrev main_cst_27 : Ref sig .tc := ⟨.hbm, 271, rfl⟩
abbrev main_v151 : Ref sig .tc := ⟨.hbm, 272, rfl⟩
abbrev main_v152 : Ref sig .tc := ⟨.hbm, 273, rfl⟩
abbrev main_v153 : Ref sig .tc := ⟨.hbm, 274, rfl⟩
abbrev main_v154 : Ref sig .tc := ⟨.hbm, 275, rfl⟩
abbrev main_c_28 : Ref sig .tc := ⟨.hbm, 276, rfl⟩
abbrev main_v155 : Ref sig .tc := ⟨.hbm, 277, rfl⟩
abbrev main_c_29 : Ref sig .tc := ⟨.hbm, 278, rfl⟩
abbrev main_c_30 : Ref sig .tc := ⟨.hbm, 279, rfl⟩
abbrev main_v156_0 : Ref sig .tc := ⟨.hbm, 280, rfl⟩
abbrev main_v156_1 : Ref sig .tc := ⟨.hbm, 281, rfl⟩
abbrev main_v156_2 : Ref sig .tc := ⟨.hbm, 282, rfl⟩
abbrev main_v156_3 : Ref sig .tc := ⟨.hbm, 283, rfl⟩
abbrev main_v156_4 : Ref sig .tc := ⟨.hbm, 284, rfl⟩
abbrev main_while0c_c_37 : Ref sig .tc := ⟨.hbm, 285, rfl⟩
abbrev main_while0c_v168 : Ref sig .tc := ⟨.hbm, 286, rfl⟩
abbrev main_while0b_c_37 : Ref sig .tc := ⟨.hbm, 287, rfl⟩
abbrev main_while0b_v168 : Ref sig .tc := ⟨.hbm, 288, rfl⟩
abbrev main_while0b_call10_c : Ref sig .tc := ⟨.hbm, 289, rfl⟩
abbrev main_while0b_call10_v0 : Ref sig .tc := ⟨.hbm, 290, rfl⟩
abbrev main_while0b_call10_v1 : Ref sig .tc := ⟨.hbm, 291, rfl⟩
abbrev main_while0b_call10_c_0 : Ref sig .tc := ⟨.hbm, 292, rfl⟩
abbrev main_while0b_call10_v2 : Ref sig .tc := ⟨.hbm, 293, rfl⟩
abbrev main_while0b_call10_v3 : Ref sig .tc := ⟨.hbm, 294, rfl⟩
abbrev main_while0b_call10_c_1 : Ref sig .tc := ⟨.hbm, 295, rfl⟩
abbrev main_while0b_call10_c_2 : Ref sig .tc := ⟨.hbm, 296, rfl⟩
abbrev main_while0b_call10_v4 : Ref sig .tc := ⟨.hbm, 297, rfl⟩
abbrev main_while0b_v169 : Ref sig .tc := ⟨.hbm, 298, rfl⟩
abbrev main_while0b_call11_c : Ref sig .tc := ⟨.hbm, 299, rfl⟩
abbrev main_while0b_call11_v0 : Ref sig .tc := ⟨.hbm, 300, rfl⟩
abbrev main_while0b_call11_v1 : Ref sig .tc := ⟨.hbm, 301, rfl⟩
abbrev main_while0b_call11_c_0 : Ref sig .tc := ⟨.hbm, 302, rfl⟩
abbrev main_while0b_call11_v2 : Ref sig .tc := ⟨.hbm, 303, rfl⟩
abbrev main_while0b_call11_v3 : Ref sig .tc := ⟨.hbm, 304, rfl⟩
abbrev main_while0b_call11_c_1 : Ref sig .tc := ⟨.hbm, 305, rfl⟩
abbrev main_while0b_v170 : Ref sig .tc := ⟨.hbm, 306, rfl⟩
abbrev main_while0b_cst_38 : Ref sig .tc := ⟨.hbm, 307, rfl⟩
abbrev main_while0b_v171 : Ref sig .tc := ⟨.hbm, 308, rfl⟩
abbrev main_while0b_v172 : Ref sig .tc := ⟨.hbm, 309, rfl⟩
abbrev main_while0b_v173 : Ref sig .tc := ⟨.hbm, 310, rfl⟩
abbrev main_while0b_v174 : Ref sig .tc := ⟨.hbm, 311, rfl⟩
abbrev main_while0b_v175 : Ref sig .tc := ⟨.hbm, 312, rfl⟩
abbrev main_while0b_v176 : Ref sig .tc := ⟨.hbm, 313, rfl⟩
abbrev main_while0b_v177 : Ref sig .tc := ⟨.hbm, 314, rfl⟩
abbrev main_while0b_v178 : Ref sig .tc := ⟨.hbm, 315, rfl⟩
abbrev main_while0b_v179 : Ref sig .tc := ⟨.hbm, 316, rfl⟩
abbrev main_while0b_v180 : Ref sig .tc := ⟨.hbm, 317, rfl⟩
abbrev main_while0b_v181 : Ref sig .tc := ⟨.hbm, 318, rfl⟩
abbrev main_while0b_v182 : Ref sig .tc := ⟨.hbm, 319, rfl⟩
abbrev main_while0b_c_39 : Ref sig .tc := ⟨.hbm, 320, rfl⟩
abbrev main_while0b_v183 : Ref sig .tc := ⟨.hbm, 321, rfl⟩
abbrev main_v157 : Ref sig .tc := ⟨.hbm, 322, rfl⟩
abbrev main_v158 : Ref sig .tc := ⟨.hbm, 323, rfl⟩
abbrev main_values_31 : Ref sig .tc := ⟨.hbm, 324, rfl⟩
abbrev main_indices_32 : Ref sig .tc := ⟨.hbm, 325, rfl⟩
abbrev main_v159 : Ref sig .tc := ⟨.hbm, 326, rfl⟩
abbrev main_v160 : Ref sig .tc := ⟨.hbm, 327, rfl⟩
abbrev main_v161 : Ref sig .tc := ⟨.hbm, 328, rfl⟩
abbrev main_v162 : Ref sig .tc := ⟨.hbm, 329, rfl⟩
abbrev main_v163 : Ref sig .tc := ⟨.hbm, 330, rfl⟩
abbrev main_v164 : Ref sig .tc := ⟨.hbm, 331, rfl⟩
abbrev main_v165 : Ref sig .tc := ⟨.hbm, 332, rfl⟩
abbrev main_v166 : Ref sig .tc := ⟨.hbm, 333, rfl⟩
abbrev main_call12_c : Ref sig .tc := ⟨.hbm, 334, rfl⟩
abbrev main_call12_v0 : Ref sig .tc := ⟨.hbm, 335, rfl⟩
abbrev main_call12_v1 : Ref sig .tc := ⟨.hbm, 336, rfl⟩
abbrev main_call12_c_0 : Ref sig .tc := ⟨.hbm, 337, rfl⟩
abbrev main_call12_v2 : Ref sig .tc := ⟨.hbm, 338, rfl⟩
abbrev main_call12_v3 : Ref sig .tc := ⟨.hbm, 339, rfl⟩
abbrev main_call12_v4 : Ref sig .tc := ⟨.hbm, 340, rfl⟩
abbrev main_v167 : Ref sig .tc := ⟨.hbm, 341, rfl⟩

abbrev nD : Nat := 1
abbrev τ : Topo := Topo.v7x

variable {F : FTy → Type} [FloatOps F]

abbrev main_while0_count : Scf.Loop 32 := ⟨0#32, 1000#32, 1#32⟩
-- ==== Proof.Prefix.lean ====
/- What the host computes before the boxes are filtered, the same in the kernel's program and in the reference. -/
module

public import proofs.«01_k».proof.Proof.Gen.KernelIdeal.Value

@[expose] public section

set_option maxRecDepth 16384

noncomputable section

namespace Cert.Pre

open Cert.KernelIdeal Cert.KernelIdeal.Gen Idealize.ShloMosaic

variable {F : FTy → Type} [FloatOps F]

/-- A scalar word spread over the boxes. -/
def words (c : IVec S_ 32) : IVec S2x1000 32 := broadcastInDim S2x1000 ![] bcast_S_S2x1000 c
/-- The same with a unit axis behind. -/
def words1 (c : IVec S_ 32) : IVec S2x1000x1 32 := broadcastInDim S2x1000x1 ![] bcast_S_S2x1000x1 c

/-- The class scores. -/
def probs (x : FVec F S2x80x64x64 .f32) : FVec F S2x4096x80 .f32 :=
  shapeCast S2x4096x80 (transpose S2x64x64x80 [0, 2, 3, 1]
    (Host.divf (broadcastInDim S2x80x64x64 ![] bcast_S_S2x80x64x64 (constant S_ .f32 0x3F800000#32))
      (addf (broadcastInDim S2x80x64x64 ![] bcast_S_S2x80x64x64 (constant S_ .f32 0x3F800000#32)) (Host.exp (Host.negf x))))
    transposes_S2x80x64x64_S2x64x64x80_0_2_3_1) shapeCasts_S2x64x64x80_S2x4096x80

/-- The four distances of each location. -/
def regs (x : FVec F S2x4x64x64 .f32) : FVec F S2x4096x4 .f32 :=
  shapeCast S2x4096x4 (transpose S2x64x64x4 [0, 2, 3, 1] x transposes_S2x4x64x64_S2x64x64x4_0_2_3_1) shapeCasts_S2x64x64x4_S2x4096x4

/-- The scores above the threshold. -/
def above (p : FVec F S2x4096x80 .f32) : IVec S2x4096x80 1 :=
  cmpf .ogt p (broadcastInDim S2x4096x80 ![] bcast_S_S2x4096x80 (constant S_ .f32 0x3C23D70A#32))

/-- The scores, zero where they do not pass. -/
def maskBy (k : IVec S2x4096x80 1) (p : FVec F S2x4096x80 .f32) (z : FVec F S_ .f32) : FVec F S2x4096x80 .f32 :=
  select k p (broadcastInDim S2x4096x80 ![] bcast_S_S2x4096x80 (id z))

/-- The largest scores. -/
def valsOf (p : FVec F S2x4096x80 .f32) : FVec F S2x1000 .f32 :=
  (Host.topK S2x1000 1 (FloatOps.cmpfTotal .gt) (shapeCast S2x327680 p shapeCasts_S2x4096x80_S2x327680) sliceFits_S2x327680_S2x1000).1
/-- Where they are. -/
def idxOf (p : FVec F S2x4096x80 .f32) : IVec S2x1000 32 :=
  (Host.topK S2x1000 1 (FloatOps.cmpfTotal .gt) (shapeCast S2x327680 p shapeCasts_S2x4096x80_S2x327680) sliceFits_S2x327680_S2x1000).2

/-- The floor of a quotient. -/
def fdivOf (c : IVec S_ 32) (i : IVec S2x1000 32) : IVec S2x1000 32 :=
  select (andi (cmpi .ne (signi i) (words (signi (id c)))) (cmpi .ne (Host.remsi i (words (id c))) (words (constantI S_ 32 0#32))))
    (subi (Host.divsi i (words (id c))) (words (constantI S_ 32 1#32))) (Host.divsi i (words (id c)))

/-- A divisor, one in place of zero. -/
def safe (c : IVec S_ 32) : IVec S_ 32 := select (cmpi .eq (id c) (constantI S_ 32 0#32)) (constantI S_ 32 1#32) (id c)
/-- The remainder with the divisor's sign. -/
def fremOf (c : IVec S_ 32) (i : IVec S2x1000 32) : IVec S2x1000 32 :=
  select (andi (cmpi .ne (cmpi .slt (Host.remsi i (words (safe c))) (words (constantI S_ 32 0#32)))
      (broadcastInDim S2x1000 ![] bcast_S_S2x1000 (cmpi .slt (safe c) (constantI S_ 32 0#32))))
      (cmpi .ne (Host.remsi i (words (safe c))) (words (constantI S_ 32 0#32))))
    (addi (Host.remsi i (words (safe c))) (words (safe c))) (Host.remsi i (words (safe c)))

/-- The labels as floats. -/
def labOf (r : IVec S2x1000 32) : FVec F S2x1000 .f32 := sitofp .f32 (addi r (words (constantI S_ 32 1#32)))
/-- A unit axis behind. -/
def col1 {α : Type} (x : S2x1000.Idx → α) : S2x1000x1.Idx → α := broadcastInDim S2x1000x1 ![0, 1] bcast_S2x1000_S2x1000x1_0_1 x

/-- An index counted from the end when it is negative. -/
def wrap1 (j : IVec S2x1000x1 32) : IVec S2x1000x1 32 :=
  select (cmpi .slt j (words1 (constantI S_ 32 0#32))) (addi j (words1 (constantI S_ 32 4096#32))) j

/-- Which indices are inside. -/
def inside (j : IVec S2x1000x1 32) : IVec S2x1000 1 :=
  Host.reduce IntOp.andi (andi (cmpi .sge (wrap1 j) (words1 (constantI S_ 32 0#32)))
    (cmpi .sle (wrap1 j) (broadcastInDim S2x1000x1 ![0, 1, 2] bcast_S1x1x1_S2x1000x1_0_1_2
      (broadcastInDim S1x1x1 ![2] bcast_S1_S1x1x1_2 (constantI S1 32 4095#32))))) (constantI S_ 1 1#1) reducesTo_S2x1000x1_S2x1000_d2 h_S_

/-- The distances at the chosen locations. -/
def takeOf (g : FVec F S2x4096x4 .f32) (j : IVec S2x1000x1 32) : FVec F S2x1000x4 .f32 :=
  select (broadcastInDim S2x1000x4 ![0, 1] bcast_S2x1000_S2x1000x4_0_1 (inside j))
    (Host.gather gather_S2x4096x4_S2x1000x1_S2x1000x4_2_1_0_0_1_2_114 g (wrap1 j))
    (broadcastInDim S2x1000x4 ![] bcast_S_S2x1000x4 (constant S_ .f32 0x7FC00000#32))

/-- The chosen locations. -/
def locOf (a : FVec F S4096x2 .f32) (l : IVec S2x1000 32) : FVec F S2x1000x2 .f32 :=
  Host.gather gather_S4096x2_S2x1000x1_S2x1000x2_2_0_n_n_0_2_12 a
    (col1 (select (cmpi .slt l (words (constantI S_ 32 0#32))) (addi l (words (constantI S_ 32 4096#32))) l))

section all
variable (a0 : FVec F S4096x2 .f32) (a1 : FVec F S2x80x64x64 .f32) (a2 : FVec F S2x4x64x64 .f32)

/-- The masked scores. -/
def scored : FVec F S2x4096x80 .f32 := maskBy (above (probs a1)) (probs a1) (constant S_ .f32 0x00000000#32)
/-- The chosen scores, locations, labels and distances. -/
def pVal : FVec F S2x1000 .f32 := valsOf (scored a1)
def pIx : IVec S2x1000 32 := fdivOf (constantI S_ 32 80#32) (idxOf (scored a1))
def pLab : FVec F S2x1000 .f32 := labOf (fremOf (constantI S_ 32 80#32) (idxOf (scored a1)))
def pReg : FVec F S2x1000x4 .f32 := takeOf (regs a2) (col1 (pIx a1))
def pLoc : FVec F S2x1000x2 .f32 := locOf a0 (pIx a1)
end all

end Cert.Pre

end
-- ==== Proof.RefDefs.lean ====
/- The reference's arrays as functions of each other. -/
module

public import proofs.«01_k».proof.Proof.Prefix
public import proofs.«01_k».proof.Proof.Gen.ReferenceIdeal.Run

@[expose] public section

set_option maxRecDepth 16384

noncomputable section

namespace Cert.Ref

open Cert.ReferenceIdeal Cert.ReferenceIdeal.Gen Idealize.ShloMosaic

variable {F : FTy → Type} [FloatOps F]

/-- A float constant over the boxes. -/
def cst (b : BitVec 32) : FVec F S2x1000 .f32 := broadcastInDim S2x1000 ![] bcast_S_S2x1000 (constant S_ .f32 b)

/-- The image's height and width as floats. -/
def hOf (a : IVec S1x2 32) : FVec F S_ .f32 := sitofp .f32 (shapeCast S_ (extractStridedSlice S1x1 ![0, 0] a slices_S1x2_S1x1_0_0) shapeCasts_S1x1_S_)
def wOf (a : IVec S1x2 32) : FVec F S_ .f32 := sitofp .f32 (shapeCast S_ (extractStridedSlice S1x1 ![0, 1] a slices_S1x2_S1x1_0_1) shapeCasts_S1x1_S_)

/-- A coordinate clipped to the image. -/
def clipOf (z w : FVec F S_ .f32) (x : FVec F S2x1000 .f32) : FVec F S2x1000 .f32 :=
  minimumf (broadcastInDim S2x1000 ![] bcast_S_S2x1000 w) (maximumf (broadcastInDim S2x1000 ![] bcast_S_S2x1000 (id z)) x)
/-- The width less one. -/
def less1 (w : FVec F S_ .f32) : FVec F S_ .f32 := subf w (constant S_ .f32 0x3F800000#32)
def z0 : FVec F S_ .f32 := constant S_ .f32 0x00000000#32

/-- The columns of locations and distances. -/
def px (l : FVec F S2x1000x2 .f32) : FVec F S2x1000 .f32 :=
  shapeCast S2x1000 (extractStridedSlice S2x1000x1 ![0, 0, 0] l slices_S2x1000x2_S2x1000x1_0_0_0) shapeCasts_S2x1000x1_S2x1000
def py (l : FVec F S2x1000x2 .f32) : FVec F S2x1000 .f32 :=
  shapeCast S2x1000 (extractStridedSlice S2x1000x1 ![0, 0, 1] l slices_S2x1000x2_S2x1000x1_0_0_1) shapeCasts_S2x1000x1_S2x1000
def d0 (l : FVec F S2x1000x4 .f32) : FVec F S2x1000 .f32 :=
  shapeCast S2x1000 (extractStridedSlice S2x1000x1 ![0, 0, 0] l slices_S2x1000x4_S2x1000x1_0_0_0) shapeCasts_S2x1000x1_S2x1000
def d1 (l : FVec F S2x1000x4 .f32) : FVec F S2x1000 .f32 :=
  shapeCast S2x1000 (extractStridedSlice S2x1000x1 ![0, 0, 1] l slices_S2x1000x4_S2x1000x1_0_0_1) shapeCasts_S2x1000x1_S2x1000
def d2 (l : FVec F S2x1000x4 .f32) : FVec F S2x1000 .f32 :=
  shapeCast S2x1000 (extractStridedSlice S2x1000x1 ![0, 0, 2] l slices_S2x1000x4_S2x1000x1_0_0_2) shapeCasts_S2x1000x1_S2x1000
def d3 (l : FVec F S2x1000x4 .f32) : FVec F S2x1000 .f32 :=
  shapeCast S2x1000 (extractStridedSlice S2x1000x1 ![0, 0, 3] l slices_S2x1000x4_S2x1000x1_0_0_3) shapeCasts_S2x1000x1_S2x1000

/-- Which boxes are large enough and score enough. -/
def okOf (x1 y1 x2 y2 v : FVec F S2x1000 .f32) : IVec S2x1000 1 :=
  andi (cmpf .ogt v (cst 0x3C23D70A#32))
    (andi (cmpf .oge (addf (subf x2 x1) (cst 0x3F800000#32)) (cst 0x00000000#32))
      (cmpf .oge (addf (subf y2 y1) (cst 0x3F800000#32)) (cst 0x00000000#32)))
/-- The scores of those, zero for the others. -/
def scoreOf (x1 y1 x2 y2 v : FVec F S2x1000 .f32) : FVec F S2x1000 .f32 := mulf v (uitofp .f32 (okOf x1 y1 x2 y2 v))

/-- Six columns side by side. -/
def table {α : Type} (a b c d e f : S2x1000.Idx → α) : S2x1000x6.Idx → α :=
  concatenate S2x1000x6 2 [⟨S2x1000x1, broadcastInDim S2x1000x1 ![0, 1] bcast_S2x1000_S2x1000x1_0_1 a⟩,
    ⟨S2x1000x1, broadcastInDim S2x1000x1 ![0, 1] bcast_S2x1000_S2x1000x1_0_1 b⟩,
    ⟨S2x1000x1, broadcastInDim S2x1000x1 ![0, 1] bcast_S2x1000_S2x1000x1_0_1 c⟩,
    ⟨S2x1000x1, broadcastInDim S2x1000x1 ![0, 1] bcast_S2x1000_S2x1000x1_0_1 d⟩,
    ⟨S2x1000x1, broadcastInDim S2x1000x1 ![0, 1] bcast_S2x1000_S2x1000x1_0_1 e⟩,
    ⟨S2x1000x1, broadcastInDim S2x1000x1 ![0, 1] bcast_S2x1000_S2x1000x1_0_1 f⟩]
    concatenates_S2x1000x1_S2x1000x1_S2x1000x1_S2x1000x1_S2x1000x1_S2x1000x1_S2x1000x6_d2

/-- The order of falling scores. -/
def orderOf (s : FVec F S2x1000 .f32) : IVec S2x1000 32 :=
  (Host.sort2 S2x1000 1 comparator_f32_i32_d1 (Host.negf s) (iotaInDim S2x1000 32 1)).2
/-- A column of indices. -/
def colIx (i : IVec S2x1000 32) : IVec S2x1000x1 32 := broadcastInDim S2x1000x1 ![0, 1] bcast_S2x1000_S2x1000x1_0_1 i
/-- The rows in a given order. -/
def pickOf {α : Type} (t : S2x1000x6.Idx → α) (i : IVec S2x1000x1 32) : S2x1000x6.Idx → α :=
  Host.gather gather_S2x1000x6_S2x1000x1_S2x1000x6_2_1_0_0_1_2_116 t
    (select (cmpi .slt i (broadcastInDim S2x1000x1 ![] bcast_S_S2x1000x1 (constantI S_ 32 0#32)))
      (addi i (broadcastInDim S2x1000x1 ![] bcast_S_S2x1000x1 (constantI S_ 32 1000#32))) i)

/-- The columns of the table. -/
def t0 {α : Type} (t : S2x1000x6.Idx → α) : S2x1000.Idx → α :=
  shapeCast S2x1000 (extractStridedSlice S2x1000x1 ![0, 0, 0] t slices_S2x1000x6_S2x1000x1_0_0_0) shapeCasts_S2x1000x1_S2x1000
def t1 {α : Type} (t : S2x1000x6.Idx → α) : S2x1000.Idx → α :=
  shapeCast S2x1000 (extractStridedSlice S2x1000x1 ![0, 0, 1] t slices_S2x1000x6_S2x1000x1_0_0_1) shapeCasts_S2x1000x1_S2x1000
def t2 {α : Type} (t : S2x1000x6.Idx → α) : S2x1000.Idx → α :=
  shapeCast S2x1000 (extractStridedSlice S2x1000x1 ![0, 0, 2] t slices_S2x1000x6_S2x1000x1_0_0_2) shapeCasts_S2x1000x1_S2x1000
def t3 {α : Type} (t : S2x1000x6.Idx → α) : S2x1000.Idx → α :=
  shapeCast S2x1000 (extractStridedSlice S2x1000x1 ![0, 0, 3] t slices_S2x1000x6_S2x1000x1_0_0_3) shapeCasts_S2x1000x1_S2x1000
def t4 {α : Type} (t : S2x1000x6.Idx → α) : S2x1000.Idx → α :=
  shapeCast S2x1000 (extractStridedSlice S2x1000x1 ![0, 0, 4] t slices_S2x1000x6_S2x1000x1_0_0_4) shapeCasts_S2x1000x1_S2x1000
def t5 {α : Type} (t : S2x1000x6.Idx → α) : S2x1000.Idx → α :=
  shapeCast S2x1000 (extractStridedSlice S2x1000x1 ![0, 0, 5] t slices_S2x1000x6_S2x1000x1_0_0_5) shapeCasts_S2x1000x1_S2x1000

/-- A column over the pairs, by the first box and by the second. -/
def byI (x : FVec F S2x1000 .f32) : FVec F S2x1000x1000 .f32 :=
  broadcastInDim S2x1000x1000 ![0, 1, 2] bcast_S2x1000x1_S2x1000x1000_0_1_2 (broadcastInDim S2x1000x1 ![0, 1] bcast_S2x1000_S2x1000x1_0_1 x)
def byJ (x : FVec F S2x1000 .f32) : FVec F S2x1000x1000 .f32 :=
  broadcastInDim S2x1000x1000 ![0, 1, 2] bcast_S2x1x1000_S2x1000x1000_0_1_2 (broadcastInDim S2x1x1000 ![0, 2] bcast_S2x1000_S2x1x1000_0_2 x)
def cstP (b : BitVec 32) : FVec F S2x1000x1000 .f32 := broadcastInDim S2x1000x1000 ![] bcast_S_S2x1000x1000 (constant S_ .f32 b)

/-- A coordinate moved by the class. -/
def moved (x l : FVec F S2x1000 .f32) : FVec F S2x1000 .f32 := addf x (mulf l (cst 0x45800000#32))
def areaOf (x1 y1 x2 y2 : FVec F S2x1000 .f32) : FVec F S2x1000 .f32 :=
  mulf (addf (subf x2 x1) (cst 0x3F800000#32)) (addf (subf y2 y1) (cst 0x3F800000#32))
/-- The common part of each pair. -/
def interOf (x1 y1 x2 y2 : FVec F S2x1000 .f32) : FVec F S2x1000x1000 .f32 :=
  mulf (maximumf (addf (subf (minimumf (byI x2) (byJ x2)) (maximumf (byI x1) (byJ x1))) (cstP 0x3F800000#32)) (cstP 0x00000000#32))
    (maximumf (addf (subf (minimumf (byI y2) (byJ y2)) (maximumf (byI y1) (byJ y1))) (cstP 0x3F800000#32)) (cstP 0x00000000#32))
/-- The overlap of each pair. -/
def ratioOf (x1 y1 x2 y2 : FVec F S2x1000 .f32) : FVec F S2x1000x1000 .f32 :=
  Host.divf (interOf x1 y1 x2 y2) (maximumf (subf (addf (byI (areaOf x1 y1 x2 y2)) (byJ (areaOf x1 y1 x2 y2))) (interOf x1 y1 x2 y2)) (cstP 0x358637BD#32))
/-- The overlap of each pair, from the table. -/
def iouOf (t : FVec F S2x1000x6 .f32) : FVec F S2x1000x1000 .f32 :=
  ratioOf (moved (t0 t) (t5 t)) (moved (t1 t) (t5 t)) (moved (t2 t) (t5 t)) (moved (t3 t) (t5 t))

/-- The score of a kept box, zero for the others. -/
def lastOf (s : FVec F S2x1000 .f32) (k : IVec S2x1000 1) : FVec F S2x1000 .f32 := mulf s (uitofp .f32 k)
/-- The hundred best. -/
def bestOf (s : FVec F S2x1000 .f32) : IVec S2x100 32 := (Host.topK S2x100 1 (FloatOps.cmpfTotal .gt) s sliceFits_S2x1000_S2x100).2
def colIx' (i : IVec S2x100 32) : IVec S2x100x1 32 := broadcastInDim S2x100x1 ![0, 1] bcast_S2x100_S2x100x1_0_1 i
/-- Their rows. -/
def rowsOf {α : Type} (t : S2x1000x6.Idx → α) (i : IVec S2x100x1 32) : S2x100x6.Idx → α :=
  Host.gather gather_S2x1000x6_S2x100x1_S2x100x6_2_1_0_0_1_2_116 t
    (select (cmpi .slt i (broadcastInDim S2x100x1 ![] bcast_S_S2x100x1 (constantI S_ 32 0#32)))
      (addi i (broadcastInDim S2x100x1 ![] bcast_S_S2x100x1 (constantI S_ 32 1000#32))) i)

end Cert.Ref

end
-- ==== Proof.RefPre.lean ====
/- What the reference's program holds when its loop starts. -/
module

public import proofs.«01_k».proof.Proof.RefDefs

@[expose] public section

set_option maxRecDepth 16384

noncomputable section

namespace Cert.ReferenceIdeal.Value

open Cert.ReferenceIdeal Cert.ReferenceIdeal.Gen Cert.Pre Cert.Ref Idealize.ShloMosaic Idealize.ShloMosaic.TcCoe Idealize.ShloMosaic.StableHlo

variable {F : FTy → Type} [FloatOps F]
variable (V : Valuation τ sig (Elt F))

/-! What a stretch does not write, it keeps. -/
theorem k0 (r : Ref sig .tc) (h : r ∉ hostOps0_W) : after hostOps0 V (Proc.devRef .tc r) = V (Proc.devRef .tc r) :=
  after_of_writes_sub hostOps0 V hostOps0_writes h
theorem k1 (r : Ref sig .tc) (h : r ∉ hostOps0_1_W) : after hostOps0_1 V (Proc.devRef .tc r) = V (Proc.devRef .tc r) :=
  after_of_writes_sub hostOps0_1 V hostOps0_1_writes h
theorem k2 (r : Ref sig .tc) (h : r ∉ hostOps0_2_W) : after hostOps0_2 V (Proc.devRef .tc r) = V (Proc.devRef .tc r) :=
  after_of_writes_sub hostOps0_2 V hostOps0_2_writes h
theorem k3 (r : Ref sig .tc) (h : r ∉ hostOps0_3_W) : after hostOps0_3 V (Proc.devRef .tc r) = V (Proc.devRef .tc r) :=
  after_of_writes_sub hostOps0_3 V hostOps0_3_writes h
theorem k4 (r : Ref sig .tc) (h : r ∉ hostOps0_4_W) : after hostOps0_4 V (Proc.devRef .tc r) = V (Proc.devRef .tc r) :=
  after_of_writes_sub hostOps0_4 V hostOps0_4_writes h
theorem k5 (r : Ref sig .tc) (h : r ∉ hostOps0_5_W) : after hostOps0_5 V (Proc.devRef .tc r) = V (Proc.devRef .tc r) :=
  after_of_writes_sub hostOps0_5 V hostOps0_5_writes h
theorem k6 (r : Ref sig .tc) (h : r ∉ hostOps0_6_W) : after hostOps0_6 V (Proc.devRef .tc r) = V (Proc.devRef .tc r) :=
  after_of_writes_sub hostOps0_6 V hostOps0_6_writes h
theorem k7 (r : Ref sig .tc) (h : r ∉ hostOps0_7_W) : after hostOps0_7 V (Proc.devRef .tc r) = V (Proc.devRef .tc r) :=
  after_of_writes_sub hostOps0_7 V hostOps0_7_writes h
theorem k8 (r : Ref sig .tc) (h : r ∉ hostOps0_8_W) : after hostOps0_8 V (Proc.devRef .tc r) = V (Proc.devRef .tc r) :=
  after_of_writes_sub hostOps0_8 V hostOps0_8_writes h
theorem k9 (r : Ref sig .tc) (h : r ∉ hostOps0_9_W) : after hostOps0_9 V (Proc.devRef .tc r) = V (Proc.devRef .tc r) :=
  after_of_writes_sub hostOps0_9 V hostOps0_9_writes h
theorem k10 (r : Ref sig .tc) (h : r ∉ hostOps0_10_W) : after hostOps0_10 V (Proc.devRef .tc r) = V (Proc.devRef .tc r) :=
  after_of_writes_sub hostOps0_10 V hostOps0_10_writes h
theorem k11 (r : Ref sig .tc) (h : r ∉ hostOps0_11_W) : after hostOps0_11 V (Proc.devRef .tc r) = V (Proc.devRef .tc r) :=
  after_of_writes_sub hostOps0_11 V hostOps0_11_writes h
theorem k12 (r : Ref sig .tc) (h : r ∉ hostOps0_12_W) : after hostOps0_12 V (Proc.devRef .tc r) = V (Proc.devRef .tc r) :=
  after_of_writes_sub hostOps0_12 V hostOps0_12_writes h
theorem k13 (r : Ref sig .tc) (h : r ∉ hostOps0_13_W) : after hostOps0_13 V (Proc.devRef .tc r) = V (Proc.devRef .tc r) :=
  after_of_writes_sub hostOps0_13 V hostOps0_13_writes h
theorem k14 (r : Ref sig .tc) (h : r ∉ hostOps0_14_W) : after hostOps0_14 V (Proc.devRef .tc r) = V (Proc.devRef .tc r) :=
  after_of_writes_sub hostOps0_14 V hostOps0_14_writes h
theorem k15 (r : Ref sig .tc) (h : r ∉ hostOps0_15_W) : after hostOps0_15 V (Proc.devRef .tc r) = V (Proc.devRef .tc r) :=
  after_of_writes_sub hostOps0_15 V hostOps0_15_writes h
theorem k16 (r : Ref sig .tc) (h : r ∉ hostOps0_16_W) : after hostOps0_16 V (Proc.devRef .tc r) = V (Proc.devRef .tc r) :=
  after_of_writes_sub hostOps0_16 V hostOps0_16_writes h
theorem k17 (r : Ref sig .tc) (h : r ∉ hostOps0_17_W) : after hostOps0_17 V (Proc.devRef .tc r) = V (Proc.devRef .tc r) :=
  after_of_writes_sub hostOps0_17 V hostOps0_17_writes h
theorem k18 (r : Ref sig .tc) (h : r ∉ hostOps0_18_W) : after hostOps0_18 V (Proc.devRef .tc r) = V (Proc.devRef .tc r) :=
  after_of_writes_sub hostOps0_18 V hostOps0_18_writes h
theorem k19 (r : Ref sig .tc) (h : r ∉ hostOps0_19_W) : after hostOps0_19 V (Proc.devRef .tc r) = V (Proc.devRef .tc r) :=
  after_of_writes_sub hostOps0_19 V hostOps0_19_writes h
theorem k20 (r : Ref sig .tc) (h : r ∉ hostOps0_20_W) : after hostOps0_20 V (Proc.devRef .tc r) = V (Proc.devRef .tc r) :=
  after_of_writes_sub hostOps0_20 V hostOps0_20_writes h

/-! What it writes. -/
theorem s0_v7 : after hostOps0 V (Proc.devRef .tc main_v7) = probs (V (Proc.devRef .tc main_arg1)) := by after_results; rfl
theorem s0_v9 : after hostOps0 V (Proc.devRef .tc main_v9) = regs (V (Proc.devRef .tc main_arg2)) := by after_results; rfl
theorem s0_v11 : after hostOps0 V (Proc.devRef .tc main_v11) = above (probs (V (Proc.devRef .tc main_arg1))) := by after_results; rfl
theorem s0_cst : after hostOps0 V (Proc.devRef .tc main_cst_2) = (constant S_ .f32 0x00000000#32 : FVec F S_ .f32) := by after_results
theorem s1_v12 : after hostOps0_1 V (Proc.devRef .tc main_v12)
    = maskBy (V (Proc.devRef .tc main_v11)) (V (Proc.devRef .tc main_v7)) (V (Proc.devRef .tc main_cst_2)) := by after_results; rfl
theorem s2_values : after hostOps0_2 V (Proc.devRef .tc main_values) = valsOf (V (Proc.devRef .tc main_v12)) := by after_results; rfl
theorem s2_indices : after hostOps0_2 V (Proc.devRef .tc main_indices) = idxOf (F := F) (V (Proc.devRef .tc main_v12)) := by after_results; rfl
theorem s2_c : after hostOps0_2 V (Proc.devRef .tc main_c) = (constantI S_ 32 80#32 : IVec S_ 32) := by after_results
theorem s3_v14 : after hostOps0_3 V (Proc.devRef .tc main_v14) = fdivOf (V (Proc.devRef .tc main_c)) (V (Proc.devRef .tc main_indices)) := by
  after_results; rfl
theorem s4_c : after hostOps0_4 V (Proc.devRef .tc main_c_3) = (constantI S_ 32 80#32 : IVec S_ 32) := by after_results
theorem s5_v15 : after hostOps0_5 V (Proc.devRef .tc main_v15) = fremOf (V (Proc.devRef .tc main_c_3)) (V (Proc.devRef .tc main_indices)) := by
  after_results; simp only [TRef.toBuf, TRef.ofBuf, cast_cast, cast_eq]; rfl
theorem s6_v18 : after hostOps0_6 V (Proc.devRef .tc main_v18) = labOf (F := F) (V (Proc.devRef .tc main_v15)) := by after_results; rfl
theorem s6_v19 : after hostOps0_6 V (Proc.devRef .tc main_v19) = col1 (V (Proc.devRef .tc main_v14) : IVec S2x1000 32) := by after_results; rfl
theorem s7_v20 : after hostOps0_7 V (Proc.devRef .tc main_v20) = takeOf (V (Proc.devRef .tc main_v9)) (V (Proc.devRef .tc main_v19)) := by
  after_results; rfl
theorem s8_v27 : after hostOps0_8 V (Proc.devRef .tc main_v27) = locOf (V (Proc.devRef .tc main_arg0)) (V (Proc.devRef .tc main_v14)) := by
  after_results; rfl
theorem s8_v30 : after hostOps0_8 V (Proc.devRef .tc main_v30) = hOf (F := F) (V (Proc.devRef .tc main_arg4)) := by
  after_results; rfl
theorem s8_v33 : after hostOps0_8 V (Proc.devRef .tc main_v33) = wOf (F := F) (V (Proc.devRef .tc main_arg4)) := by
  after_results; rfl
theorem s8_v38 : after hostOps0_8 V (Proc.devRef .tc main_v38) = subf (px (locOf (V (Proc.devRef .tc main_arg0)) (V (Proc.devRef .tc main_v14)))) (d0 (V (Proc.devRef .tc main_v20))) := by
  after_results; rfl
theorem s8_v39 : after hostOps0_8 V (Proc.devRef .tc main_v39) = less1 (wOf (F := F) (V (Proc.devRef .tc main_arg4))) := by
  after_results; rfl
theorem s8_c : after hostOps0_8 V (Proc.devRef .tc main_cst_8) = z0 (F := F) := by
  after_results; rfl
theorem s9_v40 : after hostOps0_9 V (Proc.devRef .tc main_v40) = clipOf (V (Proc.devRef .tc main_cst_8)) (V (Proc.devRef .tc main_v39)) (V (Proc.devRef .tc main_v38)) := by
  after_results; rfl
theorem s10_v45 : after hostOps0_10 V (Proc.devRef .tc main_v45) = subf (py (V (Proc.devRef .tc main_v27))) (d1 (V (Proc.devRef .tc main_v20))) := by
  after_results; rfl
theorem s10_v46 : after hostOps0_10 V (Proc.devRef .tc main_v46) = less1 (V (Proc.devRef .tc main_v30)) := by
  after_results; rfl
theorem s10_c : after hostOps0_10 V (Proc.devRef .tc main_cst_10) = z0 (F := F) := by
  after_results; rfl
theorem s11_v47 : after hostOps0_11 V (Proc.devRef .tc main_v47) = clipOf (V (Proc.devRef .tc main_cst_10)) (V (Proc.devRef .tc main_v46)) (V (Proc.devRef .tc main_v45)) := by
  after_results; rfl
theorem s12_v52 : after hostOps0_12 V (Proc.devRef .tc main_v52) = addf (px (V (Proc.devRef .tc main_v27))) (d2 (V (Proc.devRef .tc main_v20))) := by
  after_results; rfl
theorem s12_v53 : after hostOps0_12 V (Proc.devRef .tc main_v53) = less1 (V (Proc.devRef .tc main_v33)) := by
  after_results; rfl
theorem s12_c : after hostOps0_12 V (Proc.devRef .tc main_cst_12) = z0 (F := F) := by
  after_results; rfl
theorem s13_v54 : after hostOps0_13 V (Proc.devRef .tc main_v54) = clipOf (V (Proc.devRef .tc main_cst_12)) (V (Proc.devRef .tc main_v53)) (V (Proc.devRef .tc main_v52)) := by
  after_results; rfl
theorem s14_v59 : after hostOps0_14 V (Proc.devRef .tc main_v59) = addf (py (V (Proc.devRef .tc main_v27))) (d3 (V (Proc.devRef .tc main_v20))) := by
  after_results; rfl
theorem s14_v60 : after hostOps0_14 V (Proc.devRef .tc main_v60) = less1 (V (Proc.devRef .tc main_v30)) := by
  after_results; rfl
theorem s14_c : after hostOps0_14 V (Proc.devRef .tc main_cst_14) = z0 (F := F) := by
  after_results; rfl
theorem s15_v61 : after hostOps0_15 V (Proc.devRef .tc main_v61) = clipOf (V (Proc.devRef .tc main_cst_14)) (V (Proc.devRef .tc main_v60)) (V (Proc.devRef .tc main_v59)) := by
  after_results; rfl
theorem s16_v84 : after hostOps0_16 V (Proc.devRef .tc main_v84) = table (V (Proc.devRef .tc main_v40)) (V (Proc.devRef .tc main_v47)) (V (Proc.devRef .tc main_v54)) (V (Proc.devRef .tc main_v61)) (scoreOf (V (Proc.devRef .tc main_v40)) (V (Proc.devRef .tc main_v47)) (V (Proc.devRef .tc main_v54)) (V (Proc.devRef .tc main_v61)) (V (Proc.devRef .tc main_values))) (V (Proc.devRef .tc main_v18)) := by
  after_results; rfl
theorem s16_v85 : after hostOps0_16 V (Proc.devRef .tc main_v85) = Host.negf (scoreOf (V (Proc.devRef .tc main_v40)) (V (Proc.devRef .tc main_v47)) (V (Proc.devRef .tc main_v54)) (V (Proc.devRef .tc main_v61)) (V (Proc.devRef .tc main_values))) := by
  after_results; rfl
theorem s17_v86 : after hostOps0_17 V (Proc.devRef .tc main_v86) = (Host.sort2 S2x1000 1 comparator_f32_i32_d1 (V (Proc.devRef .tc main_v85)) (iotaInDim S2x1000 32 1)).2 := by
  after_results; rfl
theorem s18_v87 : after hostOps0_18 V (Proc.devRef .tc main_v87) = colIx (V (Proc.devRef .tc main_v86)) := by
  after_results; rfl
theorem s19_v88 : after hostOps0_19 V (Proc.devRef .tc main_v88) = pickOf (V (Proc.devRef .tc main_v84)) (V (Proc.devRef .tc main_v87)) := by
  after_results; rfl
theorem s20_v90 : after hostOps0_20 V (Proc.devRef .tc main_v90) = t0 (V (Proc.devRef .tc main_v88)) := by
  after_results; rfl
theorem s20_v92 : after hostOps0_20 V (Proc.devRef .tc main_v92) = t1 (V (Proc.devRef .tc main_v88)) := by
  after_results; rfl
theorem s20_v94 : after hostOps0_20 V (Proc.devRef .tc main_v94) = t2 (V (Proc.devRef .tc main_v88)) := by
  after_results; rfl
theorem s20_v96 : after hostOps0_20 V (Proc.devRef .tc main_v96) = t3 (V (Proc.devRef .tc main_v88)) := by
  after_results; rfl
theorem s20_v98 : after hostOps0_20 V (Proc.devRef .tc main_v98) = t4 (V (Proc.devRef .tc main_v88)) := by
  after_results; rfl
theorem s20_v100 : after hostOps0_20 V (Proc.devRef .tc main_v100) = t5 (V (Proc.devRef .tc main_v88)) := by
  after_results; rfl
theorem s20_0 : after hostOps0_20 V (Proc.devRef .tc main_v156_0) = iouOf (V (Proc.devRef .tc main_v88)) := by
  after_results; simp only [TRef.toBuf, TRef.ofBuf, cast_cast, cast_eq]; rfl
theorem s20_1 : after hostOps0_20 V (Proc.devRef .tc main_v156_1) = (iotaInDim S1000 32 0 : IVec S1000 32) := by
  after_results; rfl
theorem s20_3 : after hostOps0_20 V (Proc.devRef .tc main_v156_3) = (constantI S_ 32 0#32 : IVec S_ 32) := by
  after_results; rfl
theorem s20_4 : after hostOps0_20 V (Proc.devRef .tc main_v156_4) = (broadcastInDim S2x1000 ![] bcast_S_S2x1000 (constantI S_ 1 1#1) : IVec S2x1000 1) := by
  after_results; rfl

end Cert.ReferenceIdeal.Value

end
-- ==== Proof.RefTab.lean ====
/- What the reference's program holds when its loop starts, from the arguments. -/
module

public import proofs.«01_k».proof.Proof.RefPre

@[expose] public section

set_option maxRecDepth 16384

noncomputable section

namespace Cert.ReferenceIdeal.Value

open Cert.ReferenceIdeal Cert.ReferenceIdeal.Gen Cert.Pre Cert.Ref Idealize.ShloMosaic Idealize.ShloMosaic.TcCoe Idealize.ShloMosaic.StableHlo

variable {F : FTy → Type} [FloatOps F]

section tab
variable (a0 : FVec F S4096x2 .f32) (a1 : FVec F S2x80x64x64 .f32) (a2 : FVec F S2x4x64x64 .f32) (a4 : IVec S1x2 32)

/-- The boxes' corners. -/
def rX1 : FVec F S2x1000 .f32 := clipOf z0 (less1 (wOf a4)) (subf (px (pLoc a0 a1)) (d0 (pReg a1 a2)))
def rY1 : FVec F S2x1000 .f32 := clipOf z0 (less1 (hOf a4)) (subf (py (pLoc a0 a1)) (d1 (pReg a1 a2)))
def rX2 : FVec F S2x1000 .f32 := clipOf z0 (less1 (wOf a4)) (addf (px (pLoc a0 a1)) (d2 (pReg a1 a2)))
def rY2 : FVec F S2x1000 .f32 := clipOf z0 (less1 (hOf a4)) (addf (py (pLoc a0 a1)) (d3 (pReg a1 a2)))
/-- Their scores. -/
def rScore : FVec F S2x1000 .f32 := scoreOf (rX1 a0 a1 a2 a4) (rY1 a0 a1 a2 a4) (rX2 a0 a1 a2 a4) (rY2 a0 a1 a2 a4) (pVal a1)
/-- The table before it is sorted. -/
def rTab : FVec F S2x1000x6 .f32 := table (rX1 a0 a1 a2 a4) (rY1 a0 a1 a2 a4) (rX2 a0 a1 a2 a4) (rY2 a0 a1 a2 a4) (rScore a0 a1 a2 a4) (pLab a1)
/-- The table in the order of falling scores. -/
def rSorted : FVec F S2x1000x6 .f32 := pickOf (rTab a0 a1 a2 a4) (colIx (orderOf (rScore a0 a1 a2 a4)))
end tab

variable (m : (ℓ : Loc nD τ sig) → Buf (Elt F) ℓ) (c : Dev nD)

/-- The program's table. -/
def tabM : FVec F S2x1000x6 .f32 := rSorted (m (c.tc.loc main_arg0)) (m (c.tc.loc main_arg1)) (m (c.tc.loc main_arg2)) (m (c.tc.loc main_arg4))

/-- The contents before the stretch that computes the overlaps. -/
def before20 : Valuation τ sig (Elt F) := afterL [hostOps0, hostOps0_1, hostOps0_2, hostOps0_3, hostOps0_4, hostOps0_5, hostOps0_6, hostOps0_7, hostOps0_8,
  hostOps0_9, hostOps0_10, hostOps0_11, hostOps0_12, hostOps0_13, hostOps0_14, hostOps0_15, hostOps0_16, hostOps0_17, hostOps0_18, hostOps0_19] (launchContents m c)

theorem before20_v88 : before20 m c (Proc.devRef .tc main_v88) = tabM m c := by
  unfold before20
  simp only [afterL_cons, afterL_nil]
  rw [
    s19_v88,
    s18_v87, k18 _ main_v84 (by decide),
    s17_v86, k17 _ main_v84 (by decide),
    s16_v84, s16_v85,
    s15_v61, k15 _ main_v40 (by decide), k15 _ main_v47 (by decide), k15 _ main_v54 (by decide), k15 _ main_values (by decide), k15 _ main_v18 (by decide),
    s14_v59, s14_v60, s14_c, k14 _ main_v40 (by decide), k14 _ main_v47 (by decide), k14 _ main_v54 (by decide), k14 _ main_values (by decide), k14 _ main_v18 (by decide),
    s13_v54, k13 _ main_v40 (by decide), k13 _ main_v47 (by decide), k13 _ main_v27 (by decide), k13 _ main_v20 (by decide), k13 _ main_v30 (by decide), k13 _ main_values (by decide), k13 _ main_v18 (by decide),
    s12_v52, s12_v53, s12_c, k12 _ main_v40 (by decide), k12 _ main_v47 (by decide), k12 _ main_v27 (by decide), k12 _ main_v20 (by decide), k12 _ main_v30 (by decide), k12 _ main_values (by decide), k12 _ main_v18 (by decide),
    s11_v47, k11 _ main_v40 (by decide), k11 _ main_v27 (by decide), k11 _ main_v20 (by decide), k11 _ main_v30 (by decide), k11 _ main_v33 (by decide), k11 _ main_values (by decide), k11 _ main_v18 (by decide),
    s10_v45, s10_v46, s10_c, k10 _ main_v40 (by decide), k10 _ main_v27 (by decide), k10 _ main_v20 (by decide), k10 _ main_v30 (by decide), k10 _ main_v33 (by decide), k10 _ main_values (by decide), k10 _ main_v18 (by decide),
    s9_v40, k9 _ main_v27 (by decide), k9 _ main_v20 (by decide), k9 _ main_v30 (by decide), k9 _ main_v33 (by decide), k9 _ main_values (by decide), k9 _ main_v18 (by decide),
    s8_v27, s8_v30, s8_v33, s8_v38, s8_v39, s8_c, k8 _ main_v20 (by decide), k8 _ main_values (by decide), k8 _ main_v18 (by decide),
    s7_v20, k7 _ main_arg0 (by decide), k7 _ main_arg4 (by decide), k7 _ main_v14 (by decide), k7 _ main_values (by decide), k7 _ main_v18 (by decide),
    s6_v18, s6_v19, k6 _ main_arg0 (by decide), k6 _ main_arg4 (by decide), k6 _ main_v14 (by decide), k6 _ main_v9 (by decide), k6 _ main_values (by decide),
    s5_v15, k5 _ main_arg0 (by decide), k5 _ main_arg4 (by decide), k5 _ main_v14 (by decide), k5 _ main_v9 (by decide), k5 _ main_values (by decide),
    s4_c, k4 _ main_arg0 (by decide), k4 _ main_arg4 (by decide), k4 _ main_v14 (by decide), k4 _ main_v9 (by decide), k4 _ main_values (by decide), k4 _ main_indices (by decide),
    s3_v14, k3 _ main_arg0 (by decide), k3 _ main_arg4 (by decide), k3 _ main_v9 (by decide), k3 _ main_values (by decide), k3 _ main_indices (by decide),
    s2_c, s2_indices, s2_values, k2 _ main_arg0 (by decide), k2 _ main_arg4 (by decide), k2 _ main_v9 (by decide),
    s1_v12, k1 _ main_arg0 (by decide), k1 _ main_arg4 (by decide), k1 _ main_v9 (by decide),
    s0_v11, s0_v7, s0_cst, s0_v9, k0 _ main_arg0 (by decide), k0 _ main_arg4 (by decide)]
  rfl

theorem entry_eq : entryContents preI m c = after hostOps0_20 (before20 m c) := rfl

theorem entry_v90 : entryContents preI m c (Proc.devRef .tc main_v90) = t0 (tabM m c) := by rw [entry_eq, s20_v90, before20_v88]
theorem entry_v92 : entryContents preI m c (Proc.devRef .tc main_v92) = t1 (tabM m c) := by rw [entry_eq, s20_v92, before20_v88]
theorem entry_v94 : entryContents preI m c (Proc.devRef .tc main_v94) = t2 (tabM m c) := by rw [entry_eq, s20_v94, before20_v88]
theorem entry_v96 : entryContents preI m c (Proc.devRef .tc main_v96) = t3 (tabM m c) := by rw [entry_eq, s20_v96, before20_v88]
theorem entry_v98 : entryContents preI m c (Proc.devRef .tc main_v98) = t4 (tabM m c) := by rw [entry_eq, s20_v98, before20_v88]
theorem entry_v100 : entryContents preI m c (Proc.devRef .tc main_v100) = t5 (tabM m c) := by rw [entry_eq, s20_v100, before20_v88]
theorem entry_0 : entryContents preI m c (Proc.devRef .tc main_v156_0) = iouOf (tabM m c) := by rw [entry_eq, s20_0, before20_v88]
theorem entry_1 : entryContents preI m c (Proc.devRef .tc main_v156_1) = (iotaInDim S1000 32 0 : IVec S1000 32) := by rw [entry_eq, s20_1]
theorem entry_3 : entryContents preI m c (Proc.devRef .tc main_v156_3) = (constantI S_ 32 0#32 : IVec S_ 32) := by rw [entry_eq, s20_3]
theorem entry_4 : entryContents preI m c (Proc.devRef .tc main_v156_4)
    = (broadcastInDim S2x1000 ![] bcast_S_S2x1000 (constantI S_ 1 1#1) : IVec S2x1000 1) := by rw [entry_eq, s20_4]

/-! The loop leaves the columns alone. -/
theorem trip_keeps (r : Ref sig .tc) (hc : r ∉ condOps_W) (h0 : r ∉ while0Ops0_W) (h1 : r ∉ while0Ops0_1_W) (h2 : r ∉ while0Ops0_2_W) (h3 : r ∉ while0Ops0_3_W) :
    ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub while0Ops0_3 _ while0Ops0_3_writes h3, after_of_writes_sub while0Ops0_2 _ while0Ops0_2_writes h2,
      after_of_writes_sub while0Ops0_1 _ while0Ops0_1_writes h1, after_of_writes_sub while0Ops0 _ while0Ops0_writes h0,
      after_of_writes_sub condOps _ condOps_writes hc]
    exact trip_keeps r hc h0 h1 h2 h3 k

/-- The result from the columns and the kept boxes. -/
def resOf (t : FVec F S2x1000x6 .f32) (k : IVec S2x1000 1) : FVec F S2x100x6 .f32 :=
  rowsOf (table (t0 t) (t1 t) (t2 t) (t3 t) (lastOf (t4 t) k) (t5 t)) (colIx' (bestOf (lastOf (t4 t) k)))

section post
variable (V : Valuation τ sig (Elt F))
theorem p21_165 : after hostOps0_21 V (Proc.devRef .tc main_v165) = table (V (Proc.devRef .tc main_v90)) (V (Proc.devRef .tc main_v92)) (V (Proc.devRef .tc main_v94))
    (V (Proc.devRef .tc main_v96)) (lastOf (V (Proc.devRef .tc main_v98)) (V (Proc.devRef .tc main_v156_4))) (V (Proc.devRef .tc main_v100)) := by after_results; rfl
theorem p21_166 : after hostOps0_21 V (Proc.devRef .tc main_v166)
    = colIx' (bestOf (lastOf (V (Proc.devRef .tc main_v98)) (V (Proc.devRef .tc main_v156_4)))) := by after_results; rfl
theorem p22 : after hostOps0_22 V (Proc.devRef .tc main_v167) = rowsOf (V (Proc.devRef .tc main_v165)) (V (Proc.devRef .tc main_v166)) := by after_results; rfl
end post

theorem final_v167 : finalContents condOps preI bodyI postI 1000 m c (Proc.devRef .tc main_v167)
    = resOf (tabM m c) (atK m 1000 c (Proc.devRef .tc main_v156_4)) := by
  show afterL postI (after condOps (atK m 1000 c)) (Proc.devRef .tc main_v167) = _
  simp only [afterL_cons, afterL_nil]
  have q : ∀ r : Ref sig .tc, r ∉ condOps_W → after condOps (atK m 1000 c) (Proc.devRef .tc r) = atK m 1000 c (Proc.devRef .tc r) :=
    fun r h => after_of_writes_sub condOps _ condOps_writes h
  rw [p22, p21_165, p21_166, q main_v90 (by decide), q main_v92 (by decide), q main_v94 (by decide), q main_v96 (by decide), q main_v98 (by decide),
    q main_v100 (by decide), q main_v156_4 (by decide)]
  have e : ∀ r : Ref sig .tc, r ∉ condOps_W → r ∉ while0Ops0_W → r ∉ while0Ops0_1_W → r ∉ while0Ops0_2_W → r ∉ while0Ops0_3_W →
      atK m 1000 c (Proc.devRef .tc r) = entryContents preI m c (Proc.devRef .tc r) := fun r a b d e f => trip_keeps m c r a b d e f 1000
  rw [e main_v90 (by decide) (by decide) (by decide) (by decide) (by decide), e main_v92 (by decide) (by decide) (by decide) (by decide) (by decide),
    e main_v94 (by decide) (by decide) (by decide) (by decide) (by decide), e main_v96 (by decide) (by decide) (by decide) (by decide) (by decide),
    e main_v98 (by decide) (by decide) (by decide) (by decide) (by decide), e main_v100 (by decide) (by decide) (by decide) (by decide) (by decide),
    entry_v90, entry_v92, entry_v94, entry_v96, entry_v98, entry_v100]
  rfl

end Cert.ReferenceIdeal.Value

end
-- ==== Proof.Model.lean ====
/- The selection the kernel and the reference both compute, over natural numbers: which boxes are kept, and in which order they are written. -/
module

public import Idealize.ShloMosaic.PureOps.Ideal.Laws
public import Idealize.ShloMosaic.Lib.IdealHost
public import Idealize.ShloMosaic.Lib.SortPrefix
public import Mathlib.Data.EReal.Operations
public import Mathlib.Data.Nat.Count

@[expose] public section

noncomputable section

namespace Cert.Model

open Idealize.ShloMosaic

/-- A truth value as a number. -/
def tf (b : Bool) : EReal := if b then 1 else 0

theorem tf_mul (a b : Bool) : tf a * tf b = tf (a && b) := by cases a <;> cases b <;> simp [tf]
theorem one_sub_tf (a : Bool) : 1 - tf a = tf (!a) := by
  cases a
  · simp [tf]
  · have : (1 : EReal) - 1 = 0 := by
      rw [← EReal.coe_one, ← EReal.coe_sub]; simp
    simpa [tf] using this
theorem tf_bit (b : BitVec 1) : ((((b.toNat : ℤ) : ℝ)) : EReal) = tf (b == 1#1) := by
  have : b = 0#1 ∨ b = 1#1 := by revert b; decide
  rcases this with rfl | rfl <;> simp [tf]

/-- A small word as an integer. -/
theorem toInt_small {a : ℕ} (ha : a < 2 ^ 31) : (BitVec.ofNat 32 a).toInt = (a : ℤ) := by
  have : (BitVec.ofNat 32 a).toNat = a := by rw [BitVec.toNat_ofNat, Nat.mod_eq_of_lt (by omega)]
  rw [BitVec.toInt_eq_toNat_cond, this, if_pos (by omega)]

/-- Small words compare as numbers. -/
theorem slt_ofNat {a b : ℕ} (ha : a < 2 ^ 31) (hb : b < 2 ^ 31) : BitVec.slt (BitVec.ofNat 32 a) (BitVec.ofNat 32 b) = decide (a < b) := by
  rw [BitVec.slt_eq_decide, toInt_small ha, toInt_small hb]
  simp

theorem sle_ofNat {a b : ℕ} (ha : a < 2 ^ 31) (hb : b < 2 ^ 31) : BitVec.sle (BitVec.ofNat 32 a) (BitVec.ofNat 32 b) = decide (a ≤ b) := by
  rw [BitVec.sle_eq_decide, toInt_small ha, toInt_small hb]
  simp

theorem ofBool_one (b : Bool) : (BitVec.ofBool b == 1#1) = b := by cases b <;> rfl

theorem and_bit (a b : BitVec 1) : ((a &&& b) == 1#1) = ((a == 1#1) && (b == 1#1)) := by revert a b; decide

section keep
variable (G : ℕ → ℕ → Bool)

/-- Box `j` is kept when no earlier kept box overlaps it. -/
def keepB (j : ℕ) : Bool := decide (∀ i : Fin j, ¬ (G i.val j && keepB i.val) = true)
termination_by j
decreasing_by all_goals exact Fin.isLt _

/-- Box `j` has survived the kept boxes before `n`. -/
def PK (n j : ℕ) : Bool := decide (∀ i < n, i < j → ¬ (G i j && keepB G i) = true)

theorem keepB_eq (j : ℕ) : keepB G j = PK G j j := by
  rw [keepB]
  unfold PK
  refine decide_eq_decide.mpr ⟨fun h i hi _ => h ⟨i, hi⟩, fun h i => h i.val i.2 i.2⟩

theorem PK_zero (j : ℕ) : PK G 0 j = true := by simp [PK]

theorem PK_succ (n j : ℕ) : PK G (n + 1) j = (PK G n j && !(G n j && keepB G n && decide (n < j))) := by
  rw [Bool.eq_iff_iff]
  simp only [PK, decide_eq_true_eq, Bool.and_eq_true, Bool.not_eq_true', ← Bool.not_eq_true]
  constructor
  · intro h
    exact ⟨fun i hi => h i (by omega), fun hh => h n (by omega) hh.2 hh.1⟩
  · rintro ⟨h1, h2⟩ i hi hij hh
    by_cases e : i = n
    · subst e; exact h2 ⟨hh, hij⟩
    · exact h1 i (by omega) hij hh

theorem PK_of_le {n j : ℕ} (h : j ≤ n) : PK G n j = keepB G j := by
  rw [keepB_eq]
  exact decide_eq_decide.mpr ⟨fun h' i _ hij => h' i (by omega) hij, fun h' i _ hij => h' i hij hij⟩

/-- The same boxes are kept when the overlaps agree below a bound. -/
theorem keepB_congr {G G' : ℕ → ℕ → Bool} {N : ℕ} (h : ∀ i j, i < N → j < N → G i j = G' i j) :
    ∀ j, j < N → keepB G j = keepB G' j := by
  intro j
  induction j using Nat.strong_induction_on with
  | _ j ih =>
    intro hj
    rw [keepB, keepB]
    refine decide_eq_decide.mpr ⟨fun hh i => ?_, fun hh i => ?_⟩
    · rw [← h i.val j (by omega) hj, ← ih i.val i.2 (by omega)]; exact hh i
    · rw [h i.val j (by omega) hj, ih i.val i.2 (by omega)]; exact hh i
end keep

section pos
variable (q : ℕ → Prop) [DecidablePred q]

/-- The place of box `n` when the boxes with `q` come first, then the others, each group in its order. -/
def posOf (N n : ℕ) : ℕ := if q n then Nat.count q n else Nat.count q N + Nat.count (fun k => ¬ q k) n

theorem count_add (N : ℕ) : Nat.count q N + Nat.count (fun k => ¬ q k) N = N := by
  induction N with
  | zero => simp
  | succ N ih => rw [Nat.count_succ, Nat.count_succ]; by_cases h : q N <;> simp [h] <;> omega

theorem posOf_lt {N n : ℕ} (h : n < N) : posOf q N n < N := by
  unfold posOf
  split
  · rename_i hq
    exact lt_of_lt_of_le (Nat.count_strict_mono hq h) (by have := count_add q N; omega)
  · rename_i hq
    have := Nat.count_strict_mono (p := fun k => ¬ q k) hq h
    have := count_add q N; omega

/-- Among boxes of one kind the place grows with the box. -/
theorem posOf_mono {N a b : ℕ} (hab : a < b) (h : q a ↔ q b) : posOf q N a < posOf q N b := by
  unfold posOf
  by_cases ha : q a
  · rw [if_pos ha, if_pos (h.mp ha)]; exact Nat.count_strict_mono ha hab
  · rw [if_neg ha, if_neg (fun hb => ha (h.mpr hb))]
    have := Nat.count_strict_mono (p := fun k => ¬ q k) ha hab; omega

/-- A box with `q` comes before every box without. -/
theorem posOf_cross {N a b : ℕ} (haN : a < N) (ha : q a) (hb : ¬ q b) : posOf q N a < posOf q N b := by
  unfold posOf
  rw [if_pos ha, if_neg hb]
  have := Nat.count_strict_mono ha haN; omega

theorem posOf_inj {N a b : ℕ} (haN : a < N) (hbN : b < N) (h : posOf q N a = posOf q N b) : a = b := by
  by_cases ha : q a <;> by_cases hb : q b
  · rcases Nat.lt_trichotomy a b with hl | he | hl
    · have := posOf_mono q (N := N) hl (by simp [ha, hb]); omega
    · exact he
    · have := posOf_mono q (N := N) hl (by simp [ha, hb]); omega
  · have := posOf_cross q haN ha hb; omega
  · have := posOf_cross q hbN hb ha; omega
  · rcases Nat.lt_trichotomy a b with hl | he | hl
    · have := posOf_mono q (N := N) hl (by simp [ha, hb]); omega
    · exact he
    · have := posOf_mono q (N := N) hl (by simp [ha, hb]); omega

/-- The place as a map of the boxes. -/
def posFin (N : ℕ) (n : Fin N) : Fin N := ⟨posOf q N n.val, posOf_lt q n.2⟩

theorem posFin_bij (N : ℕ) : Function.Bijective (posFin q N) :=
  Finite.injective_iff_bijective.mp fun a b h => Fin.ext (posOf_inj q a.2 b.2 (congrArg Fin.val h))

/-- The box at each place. -/
def boxAt (N : ℕ) : Fin N ≃ Fin N := (Equiv.ofBijective _ (posFin_bij q N)).symm

theorem boxAt_symm (N : ℕ) (n : Fin N) : ((boxAt q N).symm n).val = posOf q N n.val := rfl

theorem boxAt_eq_iff (N : ℕ) (n r : Fin N) : boxAt q N r = n ↔ posOf q N n.val = r.val := by
  rw [← boxAt_symm, Equiv.apply_eq_iff_eq_symm_apply, Fin.ext_iff]
  exact eq_comm
end pos

section sort

theorem insertBefore_congr {ι : Type} (R R' : ι → ι → Bool) (a : ι) (l : List ι) (h : ∀ b ∈ l, R b a = R' b a) :
    insertBefore R a l = insertBefore R' a l := by
  induction l with
  | nil => rfl
  | cons b l ih =>
    unfold insertBefore
    rw [h b (by simp), ih fun c hc => h c (by simp [hc])]

/-- The stable sort of a list asks its comparison only for a later element against an earlier one. -/
theorem stableSort_congr_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- A sort whose comparison, with ties by position, agrees with the order of the places `σ.symm`. -/
theorem sortedFrom_eq_of_places {n : ℕ} (R : Fin n → Fin n → Bool) (σ : Fin n ≃ Fin n)
    (h1 : ∀ a b, R a b = true → σ.symm a < σ.symm b)
    (h2 : ∀ a b, a < b → R b a = false → R a b = false → σ.symm a < σ.symm b) (i : Fin n) : sortedFrom R i = σ i := by
  have hB : StrictTotalBefore fun a b : Fin n => decide (σ.symm a < σ.symm b) := {
    irrefl := fun a => by simp
    trans := fun a b c hab hbc => by simp only [decide_eq_true_eq] at *; exact lt_trans hab hbc
    total := fun a b hne => by
      simp only [decide_eq_true_eq]
      rcases lt_trichotomy (σ.symm a) (σ.symm b) with h | h | h
      · exact Or.inl h
      · exact absurd (σ.symm.injective h) hne
      · exact Or.inr h }
  have e := hB.sortedFrom_eq_of_prefix (le_refl n) σ σ.injective
    (fun i j hij => by simpa using hij.le) (fun i p hp => absurd (σ.apply_symm_apply p) (hp _)) i
  rw [Fin.castLE_rfl] at e
  rw [← e]
  have hl : sortPositions n R = sortPositions n fun a b => decide (σ.symm a < σ.symm b) := by
    refine stableSort_congr_later _ _ _ ((List.pairwise_lt_finRange n).imp ?_)
    intro a b hab
    cases hba : R b a
    · refine (decide_eq_false ?_).symm
      cases hab' : R a b
      · exact (h2 a b hab hba hab').asymm
      · exact (h1 a b hab').asymm
    · exact (decide_eq_true (h1 b a hba)).symm
  exact List.get_of_eq hl _

/-- A sort of a list already in order leaves it. -/
theorem sortedFrom_eq_self {n : ℕ} (R : Fin n → Fin n → Bool) (h : ∀ a b, a < b → R b a = false) (i : Fin n) :
    sortedFrom R i = i := by
  by_cases hR : ∀ a, R a a = false
  · refine sortedFrom_eq_of_places R (Equiv.refl _) (fun a b hab => ?_) (fun a b hab _ _ => hab) i
    rcases lt_trichotomy a b with hl | he | hl
    · exact hl
    · subst he; rw [hR a] at hab; exact absurd hab (by decide)
    · rw [h b a hl] at hab; exact absurd hab (by decide)
  · have hl : sortPositions n R = sortPositions n fun a b => decide (a < b) :=
      stableSort_congr_later _ _ _ ((List.pairwise_lt_finRange n).imp fun {a b} hab => by
        rw [h a b hab]; exact (decide_eq_false hab.asymm).symm)
    have e := sortedFrom_eq_of_places (fun a b : Fin n => decide (a < b)) (Equiv.refl _) (fun a b hab => by simpa using hab)
      (fun a b hab _ _ => hab) i
    refine Eq.trans ?_ e
    exact List.get_of_eq hl _
end sort

section count
/-- A sum of flags is a count. -/
theorem sum_tf (N : ℕ) (q : ℕ → Prop) [DecidablePred q] (n : ℕ) (hn : n < N) :
    (∑ m : Fin N, tf (decide (q m.val)) * tf (decide (m.val ≤ n))) = (((Nat.count q (n + 1) : ℕ) : ℝ) : EReal) := by
  have e : ∀ m : Fin N, tf (decide (q m.val)) * tf (decide (m.val ≤ n)) = if (q m.val ∧ m.val ≤ n) then (1 : EReal) else 0 := by
    intro m
    rw [tf_mul]
    simp [tf, Bool.and_eq_true]
  rw [Finset.sum_congr rfl fun m _ => e m, Finset.sum_boole, Nat.count_eq_card_filter_range]
  have hc : (Finset.univ.filter fun m : Fin N => q m.val ∧ m.val ≤ n).card = ((Finset.range (n + 1)).filter q).card := by
    refine Finset.card_bij (fun m _ => m.val) (fun m hm => ?_) (fun a _ b _ h => Fin.ext h) (fun b hb => ?_)
    · simp only [Finset.mem_filter, Finset.mem_univ, true_and, Finset.mem_range] at hm ⊢
      exact ⟨by omega, hm.1⟩
    · simp only [Finset.mem_filter, Finset.mem_range] at hb
      exact ⟨⟨b, by omega⟩, by simp [hb.2]; omega, rfl⟩
  rw [hc]
  simp
end count

end Cert.Model

end
-- ==== Proof.Boxes.lean ====
/- One box's quantities as numbers: its clipped sides, whether it counts, and whether two boxes overlap. -/
module

public import proofs.«01_k».proof.Proof.Model

@[expose] public section

noncomputable section

namespace Cert.Model

open Idealize.ShloMosaic

/-- A box as it comes in: the location, the four distances, the score and the label. -/
abbrev Raw := Fin 8 → EReal

/-- The literals. -/
def one : EReal := Ideal.ofBits .f32 0x3F800000#32
def zero : EReal := Ideal.ofBits .f32 0x00000000#32
def thr : EReal := Ideal.ofBits .f32 0x3C23D70A#32
def cls : EReal := Ideal.ofBits .f32 0x45800000#32
def eps : EReal := Ideal.ofBits .f32 0x358637BD#32
def lim : EReal := Ideal.ofBits .f32 0x3F19999A#32

theorem one_eq : one = 1 := Ideal.ofBits_one_f32
theorem zero_eq : zero = 0 := Ideal.ofBits_zero_f32

/-- A word as a number. -/
def num (w : BitVec 32) : EReal := ((w.toInt : ℝ) : EReal)

/-- A coordinate clipped to the image. -/
def clipS (w x : EReal) : EReal := min (w - one) (max zero x)

section
variable (h w : EReal) (v : Raw)
def X1 : EReal := clipS w (v 0 - v 2)
def Y1 : EReal := clipS h (v 1 - v 3)
def X2 : EReal := clipS w (v 0 + v 4)
def Y2 : EReal := clipS h (v 1 + v 5)

/-- Whether the box counts. -/
def validS : BitVec 1 :=
  (Ideal.cmp .ogt (v 6) thr &&& Ideal.cmp .oge (X2 w v - X1 w v + one) zero) &&& Ideal.cmp .oge (Y2 h v - Y1 h v + one) zero

/-- A coordinate moved by the box's class. -/
def offS (x : EReal) : EReal := x + v 7 * cls
end

/-- A box's area from its sides. -/
def areaS (x1 y1 x2 y2 : EReal) : EReal := (x2 - x1 + one) * (y2 - y1 + one)

/-- The common length of two intervals, at least zero. -/
def overS (lo hi lo' hi' : EReal) : EReal := max (min hi hi' - max lo lo' + one) zero

/-- Whether two boxes overlap by more than the limit. -/
def gtP (x1 y1 x2 y2 a x1' y1' x2' y2' a' : EReal) : BitVec 1 :=
  Ideal.cmp .ogt (Ideal.div (overS x1 x2 x1' x2' * overS y1 y2 y1' y2')
    (max ((a + a') - overS x1 x2 x1' x2' * overS y1 y2 y1' y2') eps)) lim

/-- The same from the boxes as they come in. -/
def gtS (h w : EReal) (u v : Raw) : BitVec 1 :=
  gtP (offS u (X1 w u)) (offS u (Y1 h u)) (offS u (X2 w u)) (offS u (Y2 h u))
    (areaS (offS u (X1 w u)) (offS u (Y1 h u)) (offS u (X2 w u)) (offS u (Y2 h u)))
    (offS v (X1 w v)) (offS v (Y1 h v)) (offS v (X2 w v)) (offS v (Y2 h v))
    (areaS (offS v (X1 w v)) (offS v (Y1 h v)) (offS v (X2 w v)) (offS v (Y2 h v)))

/-- The table of overlaps of a row of boxes. -/
def gTab (h w : EReal) (R : ℕ → Raw) (i j : ℕ) : Bool := gtS h w (R i) (R j) == 1#1

/-- Kept and counting. -/
def kvB (h w : EReal) (R : ℕ → Raw) (n : ℕ) : Bool := keepB (gTab h w R) n && (validS h w (R n) == 1#1)

/-- A column of the result. -/
def colS (h w : EReal) (R : ℕ → Raw) (n : ℕ) (c : Fin 6) : EReal :=
  ![X1 w (R n), Y1 h (R n), X2 w (R n), Y2 h (R n),
    R n 6 * tf (validS h w (R n) == 1#1) * tf (keepB (gTab h w R) n), R n 7] c

/-- The result: row `r` is the box at place `r`. -/
def specOut (h w : EReal) (R : ℕ → Raw) (r : Fin 1000) (c : Fin 6) : EReal :=
  colS h w R (boxAt (fun n => kvB h w R n = true) 1000 r).val c

end Cert.Model

end
-- ==== Proof.Loop.lean ====
/- The reference's loop, box by box. -/
module

public import proofs.«01_k».proof.Proof.RefTab
public import proofs.«01_k».proof.Proof.Boxes
public import Idealize.ShloMosaic.Lib.DynamicIndex

@[expose] public section

set_option maxRecDepth 16384

noncomputable section

namespace Cert.ReferenceIdeal.Value

open Cert.ReferenceIdeal Cert.ReferenceIdeal.Gen Cert.Pre Cert.Ref Cert.Model Idealize.ShloMosaic Idealize.ShloMosaic.TcCoe Idealize.ShloMosaic.StableHlo
open Idealize.ShloMosaic.ValueIdx

/-- The counter, counted from the end when it is negative. -/
def wrapC (n : IVec S_ 32) : IVec S_ 32 := select (cmpi .slt n (constantI S_ 32 0#32)) (addi (id n) (constantI S_ 32 1000#32)) n

/-- A flag per box. -/
def hold (Q : Fin 2 → ℕ → Bool) : IVec S2x1000 1 := fun i => BitVec.ofBool (Q (i 0) (i 1).val)
theorem hold_apply (Q : Fin 2 → ℕ → Bool) (b : Fin 2) (j : Fin 1000) : hold Q (ix2 b j) = BitVec.ofBool (Q b j.val) := rfl
theorem hold_congr {Q Q' : Fin 2 → ℕ → Bool} (h : ∀ b j, j < 1000 → Q b j = Q' b j) : hold Q = hold Q' := by
  funext i
  exact congrArg BitVec.ofBool (h (i 0) (i 1).val (i 1).2)
theorem ext_hold (x : IVec S2x1000 1) (Q : Fin 2 → ℕ → Bool) (h : ∀ (b : Fin 2) (j : Fin 1000), x (ix2 b j) = BitVec.ofBool (Q b j.val)) : x = hold Q := by
  funext i
  have hi : i = ix2 (i 0) (i 1) := by
    funext a
    match a with
    | 0 => rfl
    | 1 => rfl
  rw [hi]
  exact h (i 0) (i 1)

theorem comb (k p q r : IVec S2x1000 1) (i : S2x1000.Idx) : andi k (noti (andi (andi p q) r)) i = k i &&& ~~~ ((p i &&& q i) &&& r i) := rfl
theorem cmp_lim (x : FVec Ideal S2x1000 .f32) (i : S2x1000.Idx) : cmpf .ogt x (cst 0x3F19999A#32) i = Ideal.cmp .ogt (x i) lim := rfl

/-- One trip's kept boxes. -/
def stepF (g : FVec Ideal S2x1000x1000 .f32) (io : IVec S1000 32) (n : IVec S_ 32) (k : IVec S2x1000 1) : IVec S2x1000 1 :=
  andi k (noti (andi (andi
    (cmpf .ogt (shapeCast S2x1000 (Host.dynamicSlice S2x1x1000 g (fun a => ((![constantI S_ 32 0#32, wrapC n, constantI S_ 32 0#32] : Fin 3 → IVec S_ 32) a (Shape.Idx.first h_S_)).toInt)
      sliceFits_S2x1000x1000_S2x1x1000) shapeCasts_S2x1x1000_S2x1000) (cst 0x3F19999A#32))
    (broadcastInDim S2x1000 ![0, 1] bcast_S2x1_S2x1000_0_1 (Host.dynamicSlice S2x1 k
      (fun a => ((![constantI S_ 32 0#32, wrapC n] : Fin 2 → IVec S_ 32) a (Shape.Idx.first h_S_)).toInt) sliceFits_S2x1000_S2x1)))
    (broadcastInDim S2x1000 ![0, 1] bcast_S1x1000_S2x1000_0_1 (broadcastInDim S1x1000 ![1] bcast_S1000_S1x1000_1
      (cmpi .sgt io (broadcastInDim S1000 ![] bcast_S_S1000 (id n)))))))

theorem step_eq (V : Valuation τ sig (Elt Ideal)) : step_main_v156_4 V
    = stepF (V (Proc.devRef .tc main_v156_0)) (V (Proc.devRef .tc main_v156_1)) (V (Proc.devRef .tc main_v156_3)) (V (Proc.devRef .tc main_v156_4)) := rfl

theorem wrapC_eq (k : ℕ) (hk : k < 1000) : wrapC (fun _ => BitVec.ofNat 32 k) = fun _ => BitVec.ofNat 32 k := by
  funext j
  show (if BitVec.ofBool (BitVec.slt (BitVec.ofNat 32 k) (BitVec.ofNat 32 0)) = 1#1 then _ else BitVec.ofNat 32 k) = _
  rw [slt_ofNat (by omega) (by omega), decide_eq_false (by omega)]
  rfl

section
variable (g : FVec Ideal S2x1000x1000 .f32) (k : ℕ) (hk : k < 1000) (P : IVec S2x1000 1)

theorem sliceG (b : Fin 2) (j : Fin 1000) : shapeCast S2x1000 (Host.dynamicSlice S2x1x1000 g (fun a => ((![constantI S_ 32 0#32, wrapC (fun _ => BitVec.ofNat 32 k), constantI S_ 32 0#32] : Fin 3 → IVec S_ 32) a (Shape.Idx.first h_S_)).toInt)
      sliceFits_S2x1000x1000_S2x1x1000) shapeCasts_S2x1x1000_S2x1000 (ix2 b j) = g (ix3 b ⟨k, hk⟩ j) := by
  rw [wrapC_eq k hk, Host.dynamicSlice_eq_extractStridedSlice S2x1x1000 g _ (![0, k, 0] : Fin 3 → ℕ) _
    ⟨rfl, fun a => by
      match a with
      | 0 => show 0 + 2 ≤ 2; omega
      | 1 => show k + 1 ≤ 1000; omega
      | 2 => show 0 + 1000 ≤ 1000; omega⟩
    (fun a => by
      match a with
      | 0 => rfl
      | 1 => exact toInt_small (by omega)
      | 2 => rfl)]
  refine (shapeCast_apply _ _ _ (ix3 b (0 : Fin 1) j) ?_).trans ?_
  · rw [Shape.rowMajor_val_two, Shape.rowMajor_val_three]
    show (b.val * 1 + 0) * 1000 + j.val = b.val * 1000 + j.val
    omega
  · refine (extractStridedSlice_apply _ _ _ _ (ix3 b ⟨k, hk⟩ j) fun a => by
      match a with
      | 0 => show b.val = 0 + b.val; omega
      | 1 => show k = k + 0; omega
      | 2 => show j.val = 0 + j.val; omega)

theorem sliceK (b : Fin 2) (j : Fin 1000) : broadcastInDim S2x1000 ![0, 1] bcast_S2x1_S2x1000_0_1 (Host.dynamicSlice S2x1 P
      (fun a => ((![constantI S_ 32 0#32, wrapC (fun _ => BitVec.ofNat 32 k)] : Fin 2 → IVec S_ 32) a (Shape.Idx.first h_S_)).toInt) sliceFits_S2x1000_S2x1) (ix2 b j)
    = P (ix2 b ⟨k, hk⟩) := by
  rw [wrapC_eq k hk, Host.dynamicSlice_eq_extractStridedSlice S2x1 P _ (![0, k] : Fin 2 → ℕ) _
    ⟨rfl, fun a => by
      match a with
      | 0 => show 0 + 2 ≤ 2; omega
      | 1 => show k + 1 ≤ 1000; omega⟩
    (fun a => by
      match a with
      | 0 => rfl
      | 1 => exact toInt_small (by omega))]
  refine (broadcastInDim_apply _ _ _ _ (ix2 b (0 : Fin 1)) fun a => by
      match a with
      | 0 => rfl
      | 1 => rfl).trans ?_
  refine (extractStridedSlice_apply _ _ _ _ (ix2 b ⟨k, hk⟩) fun a => by
      match a with
      | 0 => show b.val = 0 + b.val; omega
      | 1 => show k = k + 0; omega)

include hk in
theorem rangeK (b : Fin 2) (j : Fin 1000) : broadcastInDim S2x1000 ![0, 1] bcast_S1x1000_S2x1000_0_1 (broadcastInDim S1x1000 ![1] bcast_S1000_S1x1000_1
      (cmpi .sgt (iotaInDim S1000 32 0) (broadcastInDim S1000 ![] bcast_S_S1000 (id (fun _ => BitVec.ofNat 32 k : IVec S_ 32))))) (ix2 b j)
    = BitVec.ofBool (decide (k < j.val)) := by
  show BitVec.ofBool (BitVec.slt (BitVec.ofNat 32 k) (BitVec.ofNat 32 j.val)) = _
  rw [slt_ofNat (by omega) (by omega)]

/-- One trip, box by box. -/
theorem stepF_apply (Q : Fin 2 → ℕ → Bool) (b : Fin 2) (j : Fin 1000) :
    stepF g (iotaInDim S1000 32 0) (fun _ => BitVec.ofNat 32 k) (hold Q) (ix2 b j)
      = BitVec.ofBool (Q b j.val && !((Ideal.cmp .ogt (g (ix3 b ⟨k, hk⟩ j)) lim == 1#1) && Q b k && decide (k < j.val))) := by
  unfold stepF
  rw [comb, cmp_lim, sliceG g k hk, sliceK k hk, rangeK k hk, hold_apply, hold_apply]
  generalize Ideal.cmp .ogt (g (ix3 b ⟨k, hk⟩ j)) lim = x
  generalize Q b j.val = y
  generalize Q b k = z
  generalize decide (k < j.val) = w
  revert x y z w
  decide
end

/-- The overlaps of the table, by box numbers. -/
def gT (g : FVec Ideal S2x1000x1000 .f32) (b : Fin 2) (i j : ℕ) : Bool :=
  if h : i < 1000 ∧ j < 1000 then Ideal.cmp .ogt (g (ix3 b ⟨i, h.1⟩ ⟨j, h.2⟩)) lim == 1#1 else false

variable (m : (ℓ : Loc nD τ sig) → Buf (Elt Ideal) ℓ) (c : Dev nD)

theorem loop_state : ∀ k ≤ 1000, let V := STEP^[k] (entryContents preI m c)
    V (Proc.devRef .tc main_v156_0) = iouOf (tabM m c) ∧ V (Proc.devRef .tc main_v156_1) = (iotaInDim S1000 32 0 : IVec S1000 32)
      ∧ V (Proc.devRef .tc main_v156_3) = (fun _ => BitVec.ofNat 32 k : IVec S_ 32)
      ∧ V (Proc.devRef .tc main_v156_4) = hold (fun b => PK (gT (iouOf (tabM m c)) b) k) := by
  intro k
  induction k with
  | zero =>
    intro _
    refine ⟨entry_0 m c, entry_1 m c, entry_3 m c, (entry_4 m c).trans ?_⟩
    exact ext_hold _ _ fun b j => by rw [PK_zero]; rfl
  | succ k ih =>
    intro hk
    obtain ⟨h0, h1, h3, h4⟩ := ih (by omega)
    simp only [Function.iterate_succ_apply']
    refine ⟨(STEP_main_v156_0 _).trans h0, (STEP_main_v156_1 _).trans h1, (STEP_main_v156_3 _).trans ?_, (STEP_main_v156_4 _).trans ?_⟩
    · unfold step_main_v156_3
      rw [h3]
      funext i
      show BitVec.ofNat 32 k + BitVec.ofNat 32 1 = _
      rw [← BitVec.ofNat_add]
    · rw [step_eq, h0, h1, h3, h4]
      refine ext_hold _ _ fun b j => ?_
      rw [stepF_apply _ k (by omega), PK_succ, PK_of_le _ (le_refl k)]
      have e : gT (iouOf (tabM m c)) b k j.val = (Ideal.cmp .ogt (iouOf (tabM m c) (ix3 b ⟨k, by omega⟩ j)) lim == 1#1) := by
        unfold gT
        rw [dif_pos ⟨by omega, j.2⟩]
      rw [e]

/-- The kept boxes when the loop ends. -/
theorem loop_end : atK m 1000 c (Proc.devRef .tc main_v156_4)
    = hold (fun b => keepB (gT (iouOf (tabM m c)) b)) := by
  refine (atK_agree m c 1000 main_v156_4 (by decide)).trans ((loop_state m c 1000 le_rfl).2.2.2.trans ?_)
  exact hold_congr fun b j hj => PK_of_le _ (le_of_lt hj)

end Cert.ReferenceIdeal.Value

end
-- ==== Proof.Sort.lean ====
/- Sorting rows of numbers. -/
module

public import proofs.«01_k».proof.Proof.RefDefs
public import proofs.«01_k».proof.Proof.Boxes

@[expose] public section

set_option maxRecDepth 16384

noncomputable section

namespace Cert.Model

open Idealize.ShloMosaic Idealize.ShloMosaic.ValueIdx

theorem along_ix2 {B N : ℕ} (b : Fin B) (j k : Fin N) : (ix2 b j : (⟨2, ![B, N]⟩ : Shape).Idx).along 1 k = ix2 b k := by
  funext a
  match a with
  | 0 => rfl
  | 1 => rfl

/-- Whether one number of a row comes before another. -/
def gtR {N : ℕ} (x : Fin N → EReal) (k k' : Fin N) : Bool := Ideal.cmp .ogt (x k) (x k') == 1#1

theorem gtR_iff {N : ℕ} (x : Fin N → EReal) (k k' : Fin N) : gtR x k k' = decide (x k' < x k) := by
  unfold gtR Ideal.cmp
  exact ofBool_one _

section
variable {B N K : ℕ} (x : FVec Ideal ⟨2, ![B, N]⟩ .f32) (h : (⟨2, ![B, N]⟩ : Shape).Slices (fun _ => 0) ⟨2, ![B, K]⟩) (hK : K ≤ N)

theorem gtR_row (b : Fin B) (j : Fin N) : (fun k k' : Fin N => FloatOps.cmpfTotal (F := Ideal) (φ := .f32) .gt (x ((ix2 b j).along 1 k)) (x ((ix2 b j).along 1 k')) == 1#1)
    = gtR fun k => x (ix2 b k) := by
  funext k k'
  rw [along_ix2, along_ix2]
  rfl

theorem topK_fst (b : Fin B) (j : Fin K) : (Host.topK ⟨2, ![B, K]⟩ 1 (FloatOps.cmpfTotal .gt) x h).1 (ix2 b j)
    = x (ix2 b (sortedFrom (gtR fun k => x (ix2 b k)) (j.castLE hK))) := by
  unfold Host.topK
  dsimp only
  refine (extractStridedSlice_apply _ _ _ _ (ix2 b (j.castLE hK)) fun a => by
    match a with
    | 0 => show b.val = 0 + b.val; omega
    | 1 => show j.val = 0 + j.val; omega).trans ?_
  unfold Host.sort2
  rw [dif_pos (show 1 < 2 by decide)]
  exact (congrArg (fun f => x ((ix2 b (j.castLE hK)).along 1 (sortedFrom f (j.castLE hK)))) (gtR_row x b (j.castLE hK))).trans
    (congrArg x (along_ix2 _ _ _))

theorem topK_snd (b : Fin B) (j : Fin K) : (Host.topK ⟨2, ![B, K]⟩ 1 (FloatOps.cmpfTotal .gt) x h).2 (ix2 b j)
    = BitVec.ofNat 32 (sortedFrom (gtR fun k => x (ix2 b k)) (j.castLE hK)).val := by
  unfold Host.topK
  dsimp only
  refine (extractStridedSlice_apply _ _ _ _ (ix2 b (j.castLE hK)) fun a => by
    match a with
    | 0 => show b.val = 0 + b.val; omega
    | 1 => show j.val = 0 + j.val; omega).trans ?_
  unfold Host.sort2
  rw [dif_pos (show 1 < 2 by decide)]
  exact congrArg (fun f => BitVec.ofNat 32 (sortedFrom f (j.castLE hK)).val) (gtR_row x b (j.castLE hK))
end

/-- Sorted rows fall. -/
theorem sorted_falls {N : ℕ} (x : Fin N → EReal) (i j : Fin N) (hij : i < j) : x (sortedFrom (gtR x) j) ≤ x (sortedFrom (gtR x) i) := by
  have e := sortedFrom_noInversion (gtR x) (gtR x) (fun a b hab => by
      rw [gtR_iff] at hab ⊢
      have := of_decide_eq_true hab
      exact decide_eq_false this.asymm) (fun a b h => h) (fun a b c hab hbc => by
      rw [gtR_iff] at hab hbc ⊢
      have h1 := of_decide_eq_false hab
      have h2 := of_decide_eq_false hbc
      exact decide_eq_false fun hlt => by
        rw [not_lt] at h1 h2
        exact absurd hlt (not_lt.mpr (h1.trans h2))) i j hij
  rw [gtR_iff] at e
  exact not_lt.mp (of_decide_eq_false e)

end Cert.Model

end
-- ==== Proof.PreFacts.lean ====
/- What is true of the boxes the host hands over: their order, and where they come from. -/
module

public import proofs.«01_k».proof.Proof.Sort
public import Idealize.ShloMosaic.Lib.ReduceAll

@[expose] public section

set_option maxRecDepth 16384

noncomputable section

namespace Cert.Pre

open Cert.KernelIdeal Cert.KernelIdeal.Gen Cert.Model Idealize.ShloMosaic Idealize.ShloMosaic.ValueIdx

section
variable (a0 : FVec Ideal S4096x2 .f32) (a1 : FVec Ideal S2x80x64x64 .f32) (a2 : FVec Ideal S2x4x64x64 .f32)

theorem scored_cases (i : S2x4096x80.Idx) : scored a1 i = 0 ∨ thr < scored a1 i := by
  have e : scored a1 i = if Ideal.cmp .ogt (probs a1 i) thr = 1#1 then probs a1 i else zero := rfl
  rw [e]
  split
  · rename_i h
    right
    unfold Ideal.cmp at h
    have := ofBool_one (decide (thr < probs a1 i))
    rw [show BitVec.ofBool (decide (thr < probs a1 i)) = 1#1 from h] at this
    exact of_decide_eq_true this.symm
  · left; exact zero_eq

/-- A row of the masked scores. -/
def flat (b : Fin 2) (k : Fin 327680) : EReal := shapeCast S2x327680 (scored a1) shapeCasts_S2x4096x80_S2x327680 (ix2 b k)

theorem flat_cases (b : Fin 2) (k : Fin 327680) : flat a1 b k = 0 ∨ thr < flat a1 b k := scored_cases a1 _

theorem le_row : 1000 ≤ 327680 := by norm_num

theorem pVal_eq (b : Fin 2) (j : Fin 1000) : pVal a1 (ix2 b j) = flat a1 b (sortedFrom (gtR (flat a1 b)) (j.castLE le_row)) :=
  topK_fst (shapeCast S2x327680 (scored a1) shapeCasts_S2x4096x80_S2x327680) sliceFits_S2x327680_S2x1000 le_row b j

theorem pVal_cases (b : Fin 2) (j : Fin 1000) : pVal a1 (ix2 b j) = 0 ∨ thr < pVal a1 (ix2 b j) := by
  rw [pVal_eq]; exact flat_cases a1 b _

theorem pVal_falls (b : Fin 2) (i j : Fin 1000) (hij : i < j) : pVal a1 (ix2 b j) ≤ pVal a1 (ix2 b i) := by
  rw [pVal_eq, pVal_eq]
  exact sorted_falls _ _ _ hij

/-- A word's sign. -/
def sgn (w : BitVec 32) : BitVec 32 := if w = 0 then 0 else if w.msb then -1 else 1
theorem sgn_80 : sgn 80#32 = 1#32 := by decide

/-- A floor quotient by eighty, of a word. -/
def fd (w : BitVec 32) : BitVec 32 :=
  if BitVec.ofBool (sgn w != sgn 80#32) &&& BitVec.ofBool (IntOp.remsi .host w 80#32 != 0#32) = 1#1
    then IntOp.divsi .host w 80#32 - 1#32 else IntOp.divsi .host w 80#32

theorem fdivOf_apply (i : IVec S2x1000 32) (x : S2x1000.Idx) : fdivOf (constantI S_ 32 80#32) i x = fd (i x) := by
  unfold fdivOf fd
  show Scalar.select _ _ _ = Scalar.select _ _ _
  refine congr (congr (congrArg Scalar.select ?_) ?_) ?_
  · show _ &&& _ = _ &&& _
    refine congr (congrArg HAnd.hAnd ?_) ?_
    · rfl
    · rfl
  · rfl
  · rfl

theorem fd_small (k : ℕ) (hk : k < 327680) : fd (BitVec.ofNat 32 k) = BitVec.ofNat 32 (k / 80) := by
  have hm : (BitVec.ofNat 32 k).msb = false := by
    rw [BitVec.msb_eq_decide]
    simp only [BitVec.toNat_ofNat]
    exact decide_eq_false (by omega)
  have hd : IntOp.divsi .host (BitVec.ofNat 32 k) 80#32 = BitVec.ofNat 32 (k / 80) := by
    unfold IntOp.divsi
    rw [if_neg (by unfold IntOp.SDivCorner; simp), BitVec.sdiv_eq, hm]
    show (BitVec.ofNat 32 k) / 80#32 = _
    apply BitVec.eq_of_toNat_eq
    rw [BitVec.toNat_udiv, BitVec.toNat_ofNat, BitVec.toNat_ofNat, BitVec.toNat_ofNat, Nat.mod_eq_of_lt (show k < 2 ^ 32 by omega),
      Nat.mod_eq_of_lt (show k / 80 < 2 ^ 32 by omega)]
  unfold fd
  rw [hd, sgn_80]
  unfold sgn
  rw [hm]
  rcases Nat.eq_zero_or_pos k with h0 | h0
  · subst h0
    rfl
  · have hz : BitVec.ofNat 32 k ≠ 0 := fun e => by
      have := congrArg BitVec.toNat e
      simp only [BitVec.toNat_ofNat] at this
      change k % 2 ^ 32 = 0 at this
      omega
    rw [if_neg hz]
    simp

theorem pIx_small (b : Fin 2) (j : Fin 1000) : ∃ q : ℕ, q < 4096 ∧ pIx a1 (ix2 b j) = BitVec.ofNat 32 q := by
  have e : pIx a1 (ix2 b j) = fd (idxOf (scored a1) (ix2 b j)) := fdivOf_apply _ _
  have e2 : idxOf (scored a1) (ix2 b j) = BitVec.ofNat 32 (sortedFrom (gtR (flat a1 b)) (j.castLE le_row)).val :=
    topK_snd (shapeCast S2x327680 (scored a1) shapeCasts_S2x4096x80_S2x327680) sliceFits_S2x327680_S2x1000 le_row b j
  generalize sortedFrom (gtR (flat a1 b)) (j.castLE le_row) = s at e2
  rw [e, e2, fd_small s.val s.isLt]
  exact ⟨s.val / 80, by have := s.isLt; omega, rfl⟩

theorem wrap1_small (x : IVec S2x1000x1 32) (i : S2x1000x1.Idx) (q : ℕ) (hq : q < 4096) (e : x i = BitVec.ofNat 32 q) : wrap1 x i = BitVec.ofNat 32 q := by
  show (if BitVec.ofBool (BitVec.slt (x i) (BitVec.ofNat 32 0)) = 1#1 then _ else x i) = _
  rw [e, slt_ofNat (by omega) (by omega), decide_eq_false (by omega)]
  rfl

theorem inside_one (j : S2x1000.Idx) : inside (col1 (pIx a1)) j = 1#1 := by
  unfold inside
  refine Host.reduce_andi_one _ _ _ _ _ rfl fun i => ?_
  obtain ⟨q, hq, e⟩ := pIx_small a1 (i 0) (i 1)
  have e1 : wrap1 (col1 (pIx a1)) i = BitVec.ofNat 32 q := wrap1_small _ i q hq ((broadcastInDim_apply _ _ _ _ (ix2 (i 0) (i 1)) fun a => by
    match a with
    | 0 => rfl
    | 1 => rfl).trans e)
  show BitVec.ofBool (BitVec.sle (BitVec.ofNat 32 0) (wrap1 (col1 (pIx a1)) i)) &&& BitVec.ofBool (BitVec.sle (wrap1 (col1 (pIx a1)) i) (BitVec.ofNat 32 4095)) = 1#1
  rw [e1, sle_ofNat (by omega) (by omega), sle_ofNat (by omega) (by omega), decide_eq_true (by omega), decide_eq_true (by omega)]
  rfl

/-- The chosen distances are distances of the argument. -/
theorem pReg_from (j : S2x1000x4.Idx) : ∃ i, pReg a1 a2 j = a2 i := by
  have hi : broadcastInDim S2x1000x4 ![0, 1] bcast_S2x1000_S2x1000x4_0_1 (inside (col1 (pIx a1))) j = 1#1 := inside_one a1 _
  unfold pReg takeOf
  show ∃ i, (if broadcastInDim S2x1000x4 ![0, 1] bcast_S2x1000_S2x1000x4_0_1 (inside (col1 (pIx a1))) j = 1#1 then _ else _) = a2 i
  rw [if_pos hi]
  exact ⟨_, rfl⟩

theorem pReg_pos (h : ∀ i, (0 : EReal) ≤ a2 i) (j : S2x1000x4.Idx) : (0 : EReal) ≤ pReg a1 a2 j := by
  obtain ⟨i, e⟩ := pReg_from a1 a2 j
  rw [e]
  exact h i
end

end Cert.Pre

end
-- ==== Proof.Body.lean ====
/- The kernel's body as one short function of its inputs: the 128 unrolled steps of each block are one recursion. -/
module

public import proofs.«01_k».proof.Proof.Gen.KernelIdeal.Value

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]

/-- The literal one. -/
def oneF : F .f32 := Scalar.ofBits .f32 0x3F800000#32
/-- The literal zero. -/
def zeroF : F .f32 := Scalar.ofBits .f32 0x00000000#32

/-- One loaded row of the data, as a matrix over image and box. -/
def rowOf (l : Vec F S2x1x1024 .f32) : FVec F S2x1024 .f32 := shapeCast S2x1024 l shapeCasts_S2x1x1024_S2x1024

/-- A coordinate clipped to the image of size `w`. -/
def clipTo (w : Elt F .i32) (x : FVec F S2x1024 .f32) : FVec F S2x1024 .f32 :=
  minimumf (broadcast S2x1024 (Scalar.subf (Scalar.sitofp .f32 w) oneF)) (maximumf (broadcast S2x1024 zeroF) x)

/-- The positions along the boxes. -/
def boxIota : IVec S2x1024 32 := iota .tc S2x1024 32 [1] iota_S2x1024_d1_w32
/-- The positions within a block. -/
def colIota : IVec S2x128 32 := iota .tc S2x128 32 [1] iota_S2x128_d1_w32

/-- Which boxes count: their score passes the threshold and their sides are not negative. -/
def validV (x1 y1 x2 y2 s : FVec F S2x1024 .f32) : IVec S2x1024 1 :=
  andi (andi (cmpf .ogt s (broadcast S2x1024 (Scalar.ofBits .f32 0x3C23D70A#32)))
      (cmpf .oge (addf (subf x2 x1) (broadcast S2x1024 oneF)) (broadcast S2x1024 zeroF)))
    (cmpf .oge (addf (subf y2 y1) (broadcast S2x1024 oneF)) (broadcast S2x1024 zeroF))

/-- A flag as a float. -/
def flagF {s : Shape} (b : IVec s 1) : FVec F s .f32 := sitofp .f32 (extui 32 b natLt_1_32)

/-- A coordinate moved by the box's class. -/
def offBy (lab x : FVec F S2x1024 .f32) : FVec F S2x1024 .f32 :=
  addf x (mulf lab (broadcast S2x1024 (Scalar.ofBits .f32 0x45800000#32)))

/-- The boxes' areas. -/
def areaV (x1 y1 x2 y2 : FVec F S2x1024 .f32) : FVec F S2x1024 .f32 :=
  mulf (addf (subf x2 x1) (broadcast S2x1024 oneF)) (addf (subf y2 y1) (broadcast S2x1024 oneF))

/-- A row vector spread over the rows of a block. -/
def down (x : FVec F S2x1024 .f32) : FVec F S2x1024x128 .f32 :=
  broadcastTo S2x1024x128 (shapeCast S2x1024x1 x shapeCasts_S2x1024_S2x1024x1) broadcasts_S2x1024x1_S2x1024x128
/-- A block's vector spread over its columns. -/
def across (x : FVec F S2x128 .f32) : FVec F S2x1024x128 .f32 :=
  broadcastTo S2x1024x128 (shapeCast S2x1x128 x shapeCasts_S2x128_S2x1x128) broadcasts_S2x1x128_S2x1024x128

/-- The overlap of two intervals, at least zero. -/
def overlap (lo hi : FVec F S2x1024 .f32) (blo bhi : FVec F S2x128 .f32) : FVec F S2x1024x128 .f32 :=
  maximumf (addf (subf (minimumf (down hi) (across bhi)) (maximumf (down lo) (across blo)))
    (broadcast S2x1024x128 oneF)) (broadcast S2x1024x128 zeroF)

/-- Whether each box overlaps each box of a block by more than the threshold, as a float. -/
def gtOf (x1 y1 x2 y2 a : FVec F S2x1024 .f32) (bx1 by1 bx2 by2 ba : FVec F S2x128 .f32) : FVec F S2x1024x128 .f32 :=
  let inter := mulf (overlap x1 x2 bx1 bx2) (overlap y1 y2 by1 by2)
  flagF (cmpf .ogt (divf inter (maximumf (subf (addf (down a) (across ba)) inter)
    (broadcast S2x1024x128 (Scalar.ofBits .f32 0x358637BD#32)))) (broadcast S2x1024x128 (Scalar.ofBits .f32 0x3F19999A#32)))

/-- `gtOf` at the block that starts at box `lo`. -/
def gtAt (lo : ℕ) (h : S2x1024.Slices ![0, lo] S2x128) (x1 y1 x2 y2 a : FVec F S2x1024 .f32) : FVec F S2x1024x128 .f32 :=
  gtOf x1 y1 x2 y2 a (extractStridedSlice S2x128 ![0, lo] x1 h) (extractStridedSlice S2x128 ![0, lo] y1 h)
    (extractStridedSlice S2x128 ![0, lo] x2 h) (extractStridedSlice S2x128 ![0, lo] y2 h) (extractStridedSlice S2x128 ![0, lo] a h)

theorem row_slices (i : ℕ) : S2x128x128.Slices ![0, i % 128, 0] S2x1x128 :=
  ⟨rfl, fun a => by
    have := Nat.mod_lt i (by decide : 128 > 0)
    match a with
    | 0 => exact (by decide : 0 + 2 ≤ 2)
    | 1 => exact (by omega : i % 128 + 1 ≤ 128)
    | 2 => exact (by decide : 0 + 128 ≤ 128)⟩

theorem col_slices (i : ℕ) : S2x128.Slices ![0, i % 128] S2x1 :=
  ⟨rfl, fun a => by
    have := Nat.mod_lt i (by decide : 128 > 0)
    match a with
    | 0 => exact (by decide : 0 + 2 ≤ 2)
    | 1 => exact (by omega : i % 128 + 1 ≤ 128)⟩

/-- Row `i` of a block's table, its entries up to column `i` cleared. -/
def maskedRow (S : FVec F S2x128x128 .f32) (i : ℕ) : FVec F S2x128 .f32 :=
  mulf (shapeCast S2x128 (extractStridedSlice S2x1x128 ![0, i % 128, 0] S (row_slices i)) shapeCasts_S2x1x128_S2x128)
    (flagF (cmpi .sgt colIota (broadcast S2x128 (BitVec.ofNat 32 i))))

/-- One suppression step: box `i` of the block, when kept, drops the later boxes it overlaps. -/
def stepV (S : FVec F S2x128x128 .f32) (i : ℕ) (K : FVec F S2x128 .f32) : FVec F S2x128 .f32 :=
  mulf K (subf (broadcast S2x128 oneF) (mulf (maskedRow S i)
    (broadcastTo S2x128 (extractStridedSlice S2x1 ![0, i % 128] K (col_slices i)) broadcasts_S2x1_S2x128)))

/-- The first `n` steps of a block. -/
def steps (S : FVec F S2x128x128 .f32) (K : FVec F S2x128 .f32) : ℕ → FVec F S2x128 .f32
  | 0 => K
  | n + 1 => stepV S n (steps S K n)

/-- One minus the largest entry of a column: a box is kept when no earlier kept box overlaps it. -/
def freeOf (m : FVec F S2x128 .f32) : FVec F S2x128 .f32 := subf (broadcast S2x128 oneF) m

section blocks
variable (x1 y1 x2 y2 a : FVec F S2x1024 .f32)

/-- The table of the block that starts at box 0, and so on for the other blocks. -/
def G0 := gtAt 0 slices_S2x1024_o0_0_S2x128 x1 y1 x2 y2 a
def G1 := gtAt 128 slices_S2x1024_o0_128_S2x128 x1 y1 x2 y2 a
def G2 := gtAt 256 slices_S2x1024_o0_256_S2x128 x1 y1 x2 y2 a
def G3 := gtAt 384 slices_S2x1024_o0_384_S2x128 x1 y1 x2 y2 a
def G4 := gtAt 512 slices_S2x1024_o0_512_S2x128 x1 y1 x2 y2 a
def G5 := gtAt 640 slices_S2x1024_o0_640_S2x128 x1 y1 x2 y2 a
def G6 := gtAt 768 slices_S2x1024_o0_768_S2x128 x1 y1 x2 y2 a
def G7 := gtAt 896 slices_S2x1024_o0_896_S2x128 x1 y1 x2 y2 a

/-- The kept boxes of block 0. -/
def B0 : FVec F S2x128 .f32 :=
  steps (extractStridedSlice S2x128x128 ![0, 0, 0] (G0 x1 y1 x2 y2 a) slices_S2x1024x128_o0_0_0_S2x128x128)
    (broadcast S2x128 oneF) 128
/-- The kept boxes of block 1, after those of block 0. -/
def B1 : FVec F S2x128 .f32 :=
  steps (extractStridedSlice S2x128x128 ![0, 128, 0] (G1 x1 y1 x2 y2 a) slices_S2x1024x128_o0_128_0_S2x128x128)
    (freeOf (multiReduction .maximumf [1] S2x128 (mulf (extractStridedSlice S2x128x128 ![0, 0, 0] (G1 x1 y1 x2 y2 a) slices_S2x1024x128_o0_0_0_S2x128x128)
      (broadcastTo S2x128x128 (shapeCast S2x128x1 (B0 x1 y1 x2 y2 a) shapeCasts_S2x128_S2x128x1) broadcasts_S2x128x1_S2x128x128))
      0xFF800000#32 reduces_S2x128x128_S2x128 (.inl rfl) rfl)) 128
/-- The kept boxes of block 2. -/
def B2 : FVec F S2x128 .f32 :=
  steps (extractStridedSlice S2x128x128 ![0, 256, 0] (G2 x1 y1 x2 y2 a) slices_S2x1024x128_o0_256_0_S2x128x128)
    (freeOf (multiReduction .maximumf [1] S2x128 (mulf (extractStridedSlice S2x256x128 ![0, 0, 0] (G2 x1 y1 x2 y2 a) slices_S2x1024x128_o0_0_0_S2x256x128)
      (broadcastTo S2x256x128 (shapeCast S2x256x1 (concatenate S2x256 1 [⟨S2x128, B0 x1 y1 x2 y2 a⟩, ⟨S2x128, B1 x1 y1 x2 y2 a⟩]
        concatenates_S2x128_S2x128_S2x256_d1) shapeCasts_S2x256_S2x256x1) broadcasts_S2x256x1_S2x256x128))
      0xFF800000#32 reduces_S2x256x128_S2x128 (.inl rfl) rfl)) 128
/-- The kept boxes of block 3. -/
def B3 : FVec F S2x128 .f32 :=
  steps (extractStridedSlice S2x128x128 ![0, 384, 0] (G3 x1 y1 x2 y2 a) slices_S2x1024x128_o0_384_0_S2x128x128)
    (freeOf (multiReduction .maximumf [1] S2x128 (mulf (extractStridedSlice S2x384x128 ![0, 0, 0] (G3 x1 y1 x2 y2 a) slices_S2x1024x128_o0_0_0_S2x384x128)
      (broadcastTo S2x384x128 (shapeCast S2x384x1 (concatenate S2x384 1 [⟨S2x128, B0 x1 y1 x2 y2 a⟩, ⟨S2x128, B1 x1 y1 x2 y2 a⟩, ⟨S2x128, B2 x1 y1 x2 y2 a⟩]
        concatenates_S2x128_S2x128_S2x128_S2x384_d1) shapeCasts_S2x384_S2x384x1) broadcasts_S2x384x1_S2x384x128))
      0xFF800000#32 reduces_S2x384x128_S2x128 (.inl rfl) rfl)) 128
/-- The kept boxes of block 4. -/
def B4 : FVec F S2x128 .f32 :=
  steps (extractStridedSlice S2x128x128 ![0, 512, 0] (G4 x1 y1 x2 y2 a) slices_S2x1024x128_o0_512_0_S2x128x128)
    (freeOf (multiReduction .maximumf [1] S2x128 (mulf (extractStridedSlice S2x512x128 ![0, 0, 0] (G4 x1 y1 x2 y2 a) slices_S2x1024x128_o0_0_0_S2x512x128)
      (broadcastTo S2x512x128 (shapeCast S2x512x1 (concatenate S2x512 1 [⟨S2x128, B0 x1 y1 x2 y2 a⟩, ⟨S2x128, B1 x1 y1 x2 y2 a⟩, ⟨S2x128, B2 x1 y1 x2 y2 a⟩,
        ⟨S2x128, B3 x1 y1 x2 y2 a⟩]
        concatenates_S2x128_S2x128_S2x128_S2x128_S2x512_d1) shapeCasts_S2x512_S2x512x1) broadcasts_S2x512x1_S2x512x128))
      0xFF800000#32 reduces_S2x512x128_S2x128 (.inl rfl) rfl)) 128
/-- The kept boxes of block 5. -/
def B5 : FVec F S2x128 .f32 :=
  steps (extractStridedSlice S2x128x128 ![0, 640, 0] (G5 x1 y1 x2 y2 a) slices_S2x1024x128_o0_640_0_S2x128x128)
    (freeOf (multiReduction .maximumf [1] S2x128 (mulf (extractStridedSlice S2x640x128 ![0, 0, 0] (G5 x1 y1 x2 y2 a) slices_S2x1024x128_o0_0_0_S2x640x128)
      (broadcastTo S2x640x128 (shapeCast S2x640x1 (concatenate S2x640 1 [⟨S2x128, B0 x1 y1 x2 y2 a⟩, ⟨S2x128, B1 x1 y1 x2 y2 a⟩, ⟨S2x128, B2 x1 y1 x2 y2 a⟩,
        ⟨S2x128, B3 x1 y1 x2 y2 a⟩, ⟨S2x128, B4 x1 y1 x2 y2 a⟩]
        concatenates_S2x128_S2x128_S2x128_S2x128_S2x128_S2x640_d1) shapeCasts_S2x640_S2x640x1) broadcasts_S2x640x1_S2x640x128))
      0xFF800000#32 reduces_S2x640x128_S2x128 (.inl rfl) rfl)) 128
/-- The kept boxes of block 6. -/
def B6 : FVec F S2x128 .f32 :=
  steps (extractStridedSlice S2x128x128 ![0, 768, 0] (G6 x1 y1 x2 y2 a) slices_S2x1024x128_o0_768_0_S2x128x128)
    (freeOf (multiReduction .maximumf [1] S2x128 (mulf (extractStridedSlice S2x768x128 ![0, 0, 0] (G6 x1 y1 x2 y2 a) slices_S2x1024x128_o0_0_0_S2x768x128)
      (broadcastTo S2x768x128 (shapeCast S2x768x1 (concatenate S2x768 1 [⟨S2x128, B0 x1 y1 x2 y2 a⟩, ⟨S2x128, B1 x1 y1 x2 y2 a⟩, ⟨S2x128, B2 x1 y1 x2 y2 a⟩,
        ⟨S2x128, B3 x1 y1 x2 y2 a⟩, ⟨S2x128, B4 x1 y1 x2 y2 a⟩, ⟨S2x128, B5 x1 y1 x2 y2 a⟩]
        concatenates_S2x128_S2x128_S2x128_S2x128_S2x128_S2x128_S2x768_d1) shapeCasts_S2x768_S2x768x1) broadcasts_S2x768x1_S2x768x128))
      0xFF800000#32 reduces_S2x768x128_S2x128 (.inl rfl) rfl)) 128
/-- The kept boxes of block 7. -/
def B7 : FVec F S2x128 .f32 :=
  steps (extractStridedSlice S2x128x128 ![0, 896, 0] (G7 x1 y1 x2 y2 a) slices_S2x1024x128_o0_896_0_S2x128x128)
    (freeOf (multiReduction .maximumf [1] S2x128 (mulf (extractStridedSlice S2x896x128 ![0, 0, 0] (G7 x1 y1 x2 y2 a) slices_S2x1024x128_o0_0_0_S2x896x128)
      (broadcastTo S2x896x128 (shapeCast S2x896x1 (concatenate S2x896 1 [⟨S2x128, B0 x1 y1 x2 y2 a⟩, ⟨S2x128, B1 x1 y1 x2 y2 a⟩, ⟨S2x128, B2 x1 y1 x2 y2 a⟩,
        ⟨S2x128, B3 x1 y1 x2 y2 a⟩, ⟨S2x128, B4 x1 y1 x2 y2 a⟩, ⟨S2x128, B5 x1 y1 x2 y2 a⟩, ⟨S2x128, B6 x1 y1 x2 y2 a⟩]
        concatenates_S2x128_S2x128_S2x128_S2x128_S2x128_S2x128_S2x128_S2x896_d1) shapeCasts_S2x896_S2x896x1) broadcasts_S2x896x1_S2x896x128))
      0xFF800000#32 reduces_S2x896x128_S2x128 (.inl rfl) rfl)) 128

/-- The kept boxes of all blocks, as floats. -/
def keepV : FVec F S2x1024 .f32 :=
  concatenate S2x1024 1 [⟨S2x128, B0 x1 y1 x2 y2 a⟩, ⟨S2x128, B1 x1 y1 x2 y2 a⟩, ⟨S2x128, B2 x1 y1 x2 y2 a⟩,
    ⟨S2x128, B3 x1 y1 x2 y2 a⟩, ⟨S2x128, B4 x1 y1 x2 y2 a⟩, ⟨S2x128, B5 x1 y1 x2 y2 a⟩, ⟨S2x128, B6 x1 y1 x2 y2 a⟩,
    ⟨S2x128, B7 x1 y1 x2 y2 a⟩] concatenates_S2x128_S2x128_S2x128_S2x128_S2x128_S2x128_S2x128_S2x128_S2x1024_d1
end blocks

/-- Kept and valid. -/
def keptValid (keepf : FVec F S2x1024 .f32) (valid : IVec S2x1024 1) : IVec S2x1024 1 :=
  andi (cmpf .ogt keepf (broadcast S2x1024 (Scalar.ofBits .f32 0x3F000000#32))) valid
/-- The boxes that are not padding. -/
def realV : IVec S2x1024 1 := cmpi .slt boxIota (broadcast S2x1024 1000#32)
/-- The boxes written first, as floats. -/
def firstV (keepf : FVec F S2x1024 .f32) (valid : IVec S2x1024 1) : FVec F S2x1024 .f32 :=
  flagF (andi (keptValid keepf valid) realV)
/-- The boxes written after them, as floats. -/
def restV (keepf : FVec F S2x1024 .f32) (valid : IVec S2x1024 1) : FVec F S2x1024 .f32 :=
  flagF (andi (xori (keptValid keepf valid) (constantI S2x1024 1 1#1)) realV)
/-- The triangle of ones. -/
def triV : FVec F S1024x1024 .f32 :=
  flagF (cmpi .sle (iota .tc S1024x1024 32 [0] iota_S1024x1024_d0_w32) (iota .tc S1024x1024 32 [1] iota_S1024x1024_d1_w32))
/-- Running counts. -/
def countV (q : FVec F S2x1024 .f32) : FVec F S2x1024 .f32 :=
  matmul dot_S2x1024_S1024x1024_S2x1024_1_0_0_1_n_n none q triV (constant S2x1024 .f32 0x00000000#32)
/-- The row of the result each box goes to. -/
def posV (q1 q2 : FVec F S2x1024 .f32) : FVec F S2x1024 .f32 :=
  select (cmpf .ogt q1 (broadcast S2x1024 zeroF)) (subf (countV q1) (broadcast S2x1024 oneF))
    (select (cmpf .ogt q2 (broadcast S2x1024 zeroF))
      (subf (addf (broadcastTo S2x1024 (extractStridedSlice S2x1 ![0, 1023] (countV q1) slices_S2x1024_o0_1023_S2x1) broadcasts_S2x1_S2x1024) (countV q2))
        (broadcast S2x1024 oneF))
      (broadcast S2x1024 (Scalar.ofBits .f32 0x4E6E6B28#32)))

/-- The columns of the result for each box. -/
def dataV (x1 y1 x2 y2 ks lab : FVec F S2x1024 .f32) : FVec F S2x1024x8 .f32 :=
  let col (x : FVec F S2x1024 .f32) : FVec F S2x1024x1 .f32 := shapeCast S2x1024x1 x shapeCasts_S2x1024_S2x1024x1
  concatenate S2x1024x8 2 [⟨S2x1024x1, col x1⟩, ⟨S2x1024x1, col y1⟩, ⟨S2x1024x1, col x2⟩, ⟨S2x1024x1, col y2⟩,
    ⟨S2x1024x1, col ks⟩, ⟨S2x1024x1, col lab⟩, ⟨S2x1024x1, col (broadcast S2x1024 zeroF)⟩, ⟨S2x1024x1, col (broadcast S2x1024 zeroF)⟩]
    concatenates_S2x1024x1_S2x1024x1_S2x1024x1_S2x1024x1_S2x1024x1_S2x1024x1_S2x1024x1_S2x1024x1_S2x1024x8_d2

/-- One image's rows of the result: row `r` is the data of the box whose position is `r`. -/
def outRows (p : FVec F S1x1024 .f32) (d : FVec F S1x1024x8 .f32) : FVec F S1x100x6 .f32 :=
  shapeCast S1x100x6 (extractStridedSlice S100x6 ![0, 0]
    (matmul dot_S128x1024_S1024x8_S128x8_1_0_0_1_n_n (some .fp32)
      (transpose S128x1024 [1, 0] (flagF (cmpf .oeq
        (broadcastTo S1024x128 (shapeCast S1024x1 (shapeCast S1024 p shapeCasts_S1x1024_S1024) shapeCasts_S1024_S1024x1) broadcasts_S1024x1_S1024x128)
        (sitofp .f32 (iota .tc S1024x128 32 [1] iota_S1024x128_d1_w32)))) transposes_S1024x128_p1_0_S128x1024)
      (shapeCast S1024x8 d shapeCasts_S1x1024x8_S1024x8) (constant S128x8 .f32 0x00000000#32))
    slices_S128x8_o0_0_S100x6) shapeCasts_S100x6_S1x100x6

section body
variable (h w : Elt F .i32) (l0 l1 l2 l3 l4 l5 l6 l7 : Vec F S2x1x1024 .f32)

/-- The clipped left, top, right and bottom sides. -/
def bX1 := clipTo w (subf (rowOf l0) (rowOf l2))
def bY1 := clipTo h (subf (rowOf l1) (rowOf l3))
def bX2 := clipTo w (addf (rowOf l0) (rowOf l4))
def bY2 := clipTo h (addf (rowOf l1) (rowOf l5))
/-- The valid boxes. -/
def bValid := validV (bX1 w l0 l2) (bY1 h l1 l3) (bX2 w l0 l4) (bY2 h l1 l5) (rowOf l6)
/-- The kept boxes. -/
def bKeep : FVec F S2x1024 .f32 :=
  let x1 := offBy (rowOf l7) (bX1 w l0 l2)
  let y1 := offBy (rowOf l7) (bY1 h l1 l3)
  let x2 := offBy (rowOf l7) (bX2 w l0 l4)
  let y2 := offBy (rowOf l7) (bY2 h l1 l5)
  keepV x1 y1 x2 y2 (areaV x1 y1 x2 y2)
/-- The boxes' rows in the result. -/
def bPos : FVec F S2x1024 .f32 :=
  posV (firstV (bKeep h w l0 l1 l2 l3 l4 l5 l7) (bValid h w l0 l1 l2 l3 l4 l5 l6))
    (restV (bKeep h w l0 l1 l2 l3 l4 l5 l7) (bValid h w l0 l1 l2 l3 l4 l5 l6))
/-- The boxes' data. -/
def bData : FVec F S2x1024x8 .f32 :=
  dataV (bX1 w l0 l2) (bY1 h l1 l3) (bX2 w l0 l4) (bY2 h l1 l5)
    (mulf (mulf (rowOf l6) (flagF (bValid h w l0 l1 l2 l3 l4 l5 l6))) (bKeep h w l0 l1 l2 l3 l4 l5 l7)) (rowOf l7)
/-- What the body stores for the first image. -/
def bOut0 : FVec F S1x100x6 .f32 :=
  outRows (extractStridedSlice S1x1024 ![0, 0] (bPos h w l0 l1 l2 l3 l4 l5 l6 l7) slices_S2x1024_o0_0_S1x1024)
    (extractStridedSlice S1x1024x8 ![0, 0, 0] (bData h w l0 l1 l2 l3 l4 l5 l6 l7) slices_S2x1024x8_o0_0_0_S1x1024x8)
/-- What the body stores for the second image. -/
def bOut1 : FVec F S1x100x6 .f32 :=
  outRows (extractStridedSlice S1x1024 ![1, 0] (bPos h w l0 l1 l2 l3 l4 l5 l6 l7) slices_S2x1024_o1_0_S1x1024)
    (extractStridedSlice S1x1024x8 ![1, 0, 0] (bData h w l0 l1 l2 l3 l4 l5 l6 l7) slices_S2x1024x8_o1_0_0_S1x1024x8)
end body

end Cert.KernelIdeal.Value

end
-- ==== Proof.Collapse.lean ====
/- The generated run of the body is the short function. -/
module

public import proofs.«01_k».proof.Proof.Body
import all proofs.«01_k».proof.Proof.Gen.KernelIdeal.Frame.RunA

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]

/-- The two stores of the body, the last one first. -/
def piecesOf (h w : Elt F .i32) (l0 l1 l2 l3 l4 l5 l6 l7 : Vec F S2x1x1024 .f32) : List (View.Piece (Elt F) S2x100x6 .f32) :=
  [⟨Rect.unit ![1, 0, 0] S1x100x6.size inb_S2x100x6_S1x100x6_1_0_0, bOut1 h w l0 l1 l2 l3 l4 l5 l6 l7⟩,
    ⟨Rect.unit ![0, 0, 0] S1x100x6.size inb_S2x100x6_S1x100x6_0_0_0, bOut0 h w l0 l1 l2 l3 l4 l5 l6 l7⟩]

set_option maxHeartbeats 0 in
/-- The two pieces the body stores are the short function of what it loads. -/
theorem body_pieces (c : Dev nD) (arg0 : Memref sig .tc .smem S1x2 .i32) (harg0 : arg0.IsWhole) (arg1 : Memref sig .tc .vmem S2x8x1024 .f32) (harg1 : arg1.IsWhole)
    (arg2 : Memref sig .tc .vmem S2x100x6 .f32) (harg2 : arg2.IsWhole) (x0 : Vec F S1x2 .i32) (x1 : Vec F S2x8x1024 .f32) :
    (kernelRun0_A c arg0 harg0 arg1 harg1 arg2 harg2 x0 x1).1 = piecesOf
      (View.readAt (Elt F) arg0.view (Rect.unit (s := S1x2) ![0, 0] S1x1.size inb_S1x2_S1x1_0_0).toLoadRect (harg0.unread x0) (Shape.Idx.first (by decide)))
      (View.readAt (Elt F) arg0.view (Rect.unit (s := S1x2) ![0, 1] S1x1.size inb_S1x2_S1x1_0_1).toLoadRect (harg0.unread x0) (Shape.Idx.first (by decide)))
      (View.readAt (Elt F) arg1.view (Rect.unit (s := S2x8x1024) ![0, 0, 0] S2x1x1024.size inb_S2x8x1024_S2x1x1024_0_0_0).toLoadRect (harg1.unread x1))
      (View.readAt (Elt F) arg1.view (Rect.unit (s := S2x8x1024) ![0, 1, 0] S2x1x1024.size inb_S2x8x1024_S2x1x1024_0_1_0).toLoadRect (harg1.unread x1))
      (View.readAt (Elt F) arg1.view (Rect.unit (s := S2x8x1024) ![0, 2, 0] S2x1x1024.size inb_S2x8x1024_S2x1x1024_0_2_0).toLoadRect (harg1.unread x1))
      (View.readAt (Elt F) arg1.view (Rect.unit (s := S2x8x1024) ![0, 3, 0] S2x1x1024.size inb_S2x8x1024_S2x1x1024_0_3_0).toLoadRect (harg1.unread x1))
      (View.readAt (Elt F) arg1.view (Rect.unit (s := S2x8x1024) ![0, 4, 0] S2x1x1024.size inb_S2x8x1024_S2x1x1024_0_4_0).toLoadRect (harg1.unread x1))
      (View.readAt (Elt F) arg1.view (Rect.unit (s := S2x8x1024) ![0, 5, 0] S2x1x1024.size inb_S2x8x1024_S2x1x1024_0_5_0).toLoadRect (harg1.unread x1))
      (View.readAt (Elt F) arg1.view (Rect.unit (s := S2x8x1024) ![0, 6, 0] S2x1x1024.size inb_S2x8x1024_S2x1x1024_0_6_0).toLoadRect (harg1.unread x1))
      (View.readAt (Elt F) arg1.view (Rect.unit (s := S2x8x1024) ![0, 7, 0] S2x1x1024.size inb_S2x8x1024_S2x1x1024_0_7_0).toLoadRect (harg1.unread x1)) := by
  sl_kernel_rfl

end Cert.KernelIdeal.Value
end
-- ==== Proof.KernelRun.lean ====
/- The kernel's result array after the run, as the short function of the staged inputs. -/
module

public import proofs.«01_k».proof.Proof.Collapse
public import Idealize.ShloMosaic.Lib.WholeRead
public import Idealize.ShloMosaic.Lib.WritesUnit
public import Idealize.ShloMosaic.Lib.ValueIdxCoords

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open ValueIdx

variable {F : FTy → Type} [FloatOps F]
variable (m : (ℓ : Loc nD τ sig) → Buf (Elt F) ℓ) (ρ : Dev nD → PrngReg)

/-- Row `k` of the data. -/
def ldRow (X : Vec F S2x8x1024 .f32) (k : Fin 8) : Vec F S2x1x1024 .f32 := fun j => X (ix3 (j 0) k (j 2))

/-- The whole result of image sizes `z` and data `X`. -/
def outAll (z : Vec F S1x2 .i32) (X : Vec F S2x8x1024 .f32) : Vec F S2x100x6 .f32 := fun i =>
  if (i 0).val = 0 then
    bOut0 (z (ix2 0 0)) (z (ix2 0 1)) (ldRow X 0) (ldRow X 1) (ldRow X 2) (ldRow X 3) (ldRow X 4) (ldRow X 5) (ldRow X 6) (ldRow X 7) (ix3 0 (i 1) (i 2))
  else
    bOut1 (z (ix2 0 0)) (z (ix2 0 1)) (ldRow X 0) (ldRow X 1) (ldRow X 2) (ldRow X 3) (ldRow X 4) (ldRow X 5) (ldRow X 6) (ldRow X 7) (ix3 0 (i 1) (i 2))

theorem load_row (arg1 : Memref sig .tc .vmem S2x8x1024 .f32) (harg1 : arg1.IsWhole) (X : Vec F S2x8x1024 .f32) (k : ℕ) (hk : k < 8)
    (h : ∀ a, (![0, k, 0] : Fin 3 → ℕ) a + S2x1x1024.size a ≤ S2x8x1024.size a) :
    View.readAt (Elt F) arg1.view (Rect.unit (s := S2x8x1024) ![0, k, 0] S2x1x1024.size h).toLoadRect (harg1.unread X) = ldRow X ⟨k, hk⟩ := by
  funext j
  rw [harg1.readAt_unread]
  refine congrArg X (funext fun a => ?_)
  have h1 : (j 1).val = 0 := by have : (j 1).val < 1 := (j 1).isLt; omega
  match a with
  | 0 => exact Fin.ext (by show 0 + 1 * (j 0).val = (j 0).val; omega)
  | 1 => exact Fin.ext (by show k + 1 * (j 1).val = k; omega)
  | 2 => exact Fin.ext (by show 0 + 1 * (j 2).val = (j 2).val; omega)

theorem load_word (arg0 : Memref sig .tc .smem S1x2 .i32) (harg0 : arg0.IsWhole) (z : Vec F S1x2 .i32) (k : ℕ) (hk : k < 2)
    (h : ∀ a, (![0, k] : Fin 2 → ℕ) a + S1x1.size a ≤ S1x2.size a) (hf) :
    View.readAt (Elt F) arg0.view (Rect.unit (s := S1x2) ![0, k] S1x1.size h).toLoadRect (harg0.unread z) (Shape.Idx.first hf)
      = z (ix2 0 ⟨k, hk⟩) := by
  rw [harg0.readAt_unread]
  refine congrArg z (funext fun a => ?_)
  match a with
  | 0 => rfl
  | 1 => rfl

/-- What the body leaves in the output's staging buffer. -/
theorem out0_eq (c : Dev nD) (arg0 : Memref sig .tc .smem S1x2 .i32) (harg0 : arg0.IsWhole) (arg1 : Memref sig .tc .vmem S2x8x1024 .f32) (harg1 : arg1.IsWhole)
    (arg2 : Memref sig .tc .vmem S2x100x6 .f32) (harg2 : arg2.IsWhole) (x0 : Vec F S1x2 .i32) (x1 : Vec F S2x8x1024 .f32) :
    out0_A_2 c arg0 harg0 arg1 harg1 arg2 harg2 x0 x1 = outAll x0 x1 := by
  unfold out0_A_2
  rw [body_pieces]
  simp only [load_row arg1 harg1 x1 _ (by decide : 0 < 8), load_row arg1 harg1 x1 _ (by decide : 1 < 8), load_row arg1 harg1 x1 _ (by decide : 2 < 8),
    load_row arg1 harg1 x1 _ (by decide : 3 < 8), load_row arg1 harg1 x1 _ (by decide : 4 < 8), load_row arg1 harg1 x1 _ (by decide : 5 < 8),
    load_row arg1 harg1 x1 _ (by decide : 6 < 8), load_row arg1 harg1 x1 _ (by decide : 7 < 8),
    load_word arg0 harg0 x0 _ (by decide : 0 < 2), load_word arg0 harg0 x0 _ (by decide : 1 < 2)]
  funext i
  have h0 : (i 0).val < 2 := (i 0).isLt
  unfold piecesOf
  by_cases hi : (i 0).val = 0
  · refine (View.read_writes_cons_unit_of_not_mem VO0_2 VO0_2.junk (off' := ![1, 0, 0]) _ _ _ i rfl 0 (Or.inl (by show (i 0).val < 1; omega))).trans ?_
    refine (View.read_writes_cons_unit_of_mem VO0_2 VO0_2.junk (off' := ![0, 0, 0]) _ _ _ i (ix3 0 (i 1) (i 2)) rfl fun a => ?_).trans ?_
    · match a with
      | 0 => show (i 0).val = 0 + 0; omega
      | 1 => show (i 1).val = 0 + (i 1).val; omega
      | 2 => show (i 2).val = 0 + (i 2).val; omega
    · unfold outAll; rw [if_pos hi]; rfl
  · refine (View.read_writes_cons_unit_of_mem VO0_2 VO0_2.junk (off' := ![1, 0, 0]) _ _ _ i (ix3 0 (i 1) (i 2)) rfl fun a => ?_).trans ?_
    · match a with
      | 0 => show (i 0).val = 1 + 0; omega
      | 1 => show (i 1).val = 0 + (i 1).val; omega
      | 2 => show (i 2).val = 0 + (i 2).val; omega
    · unfold outAll; rw [if_neg hi]; rfl

theorem emb0 (t : Fin cfg0.N) (i : S1x2.Idx) : ((cfg0.win 0).blk t).view.emb i = i := by
  rcases fin_N0 t with rfl
  funext a
  match a with
  | 0 => exact Fin.ext (by show 0 + 1 * (i 0).val = (i 0).val; omega)
  | 1 => exact Fin.ext (by show 0 + 1 * (i 1).val = (i 1).val; omega)

theorem emb1 (t : Fin cfg0.N) (i : S2x8x1024.Idx) : ((cfg0.win 1).blk t).view.emb i = i := by
  rcases fin_N0 t with rfl
  funext a
  match a with
  | 0 => exact Fin.ext (by show 0 + 1 * (i 0).val = (i 0).val; omega)
  | 1 => exact Fin.ext (by show 0 + 1 * (i 1).val = (i 1).val; omega)
  | 2 => exact Fin.ext (by show 0 + 1 * (i 2).val = (i 2).val; omega)

theorem emb2 (t : Fin cfg0.N) (i : S2x100x6.Idx) : ((cfg0.win 2).blk t).view.emb i = i := by
  rcases fin_N0 t with rfl
  funext a
  match a with
  | 0 => exact Fin.ext (by show 0 + 1 * (i 0).val = (i 0).val; omega)
  | 1 => exact Fin.ext (by show 0 + 1 * (i 1).val = (i 1).val; omega)
  | 2 => exact Fin.ext (by show 0 + 1 * (i 2).val = (i 2).val; omega)

theorem iblk0_eq (c : Dev nD) (t : Fin cfg0.N) : iblk m c 0 t = V m c main_arg4 := by
  funext i
  show V m c main_arg4 (((cfg0.win 0).blk t).view.emb i) = _
  rw [emb0]

theorem iblk1_eq (c : Dev nD) (t : Fin cfg0.N) : iblk m c 1 t = V m c main_v32 := by
  funext i
  show V m c main_v32 (((cfg0.win 1).blk t).view.emb i) = _
  rw [emb1]

/-- What the one point writes back. -/
theorem flushed_out (c : Dev nD) (t : Fin cfg0.N) :
    (dats m 0 c).flushed 2 t = ((cfg0.win 2).blk t).view.read (Elt F) (outAll (V m c main_arg4) (V m c main_v32)) := by
  rw [flushed2_A, out0_eq, iblk0_eq, iblk1_eq]
  funext i
  show outAll (V m c main_arg4) (V m c main_v32) i = outAll (V m c main_arg4) (V m c main_v32) (((cfg0.win 2).blk t).view.emb i)
  rw [emb2]

theorem covered (i : S2x100x6.Idx) : ∃ t : Fin cfg0.N, (cfg0.win 2).flush t = true ∧ i ∈ ((cfg0.win 2).blk t).view.set :=
  ⟨t0_0, flush0_2 _, by have h := ((cfg0.win 2).blk t0_0).view.emb_mem_set i; rwa [emb2] at h⟩

/-- The kernel's run: the result array holds the whole result of the image sizes and of the prepared data. -/
theorem run_out : θ_run defs (onTc (τ := τ) (main (F := F))) ⟨m, fun _ => 0, ρ⟩ fun r => ∀ c : Dev nD,
      r.2.mem ((c : Thread nD τ).loc main_v33) = outAll (m ((c : Thread nD τ).loc main_arg4)) (V m c main_v32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans
      (((dats m 0 c).arrAt_eq_of_cover 2 _ (fun t _ => flushed_out m c t) covered).trans
        (congrArg (fun z => outAll z (V m c main_v32)) (V_main_arg4 m c))), (h c).2⟩)
    (run_blocks m ρ)

end Cert.KernelIdeal.Value

end
-- ==== Proof.Blocks.lean ====
/- The kernel's blocks hold the kept boxes. -/
module

public import proofs.«01_k».proof.Proof.KernelRun
public import proofs.«01_k».proof.Proof.Boxes
public import Idealize.ShloMosaic.Lib.ValueLayout

@[expose] public section

set_option maxRecDepth 16384

noncomputable section

namespace Cert.KernelIdeal.Value

open Cert.KernelIdeal Cert.KernelIdeal.Gen Cert.Model Idealize.ShloMosaic Idealize.ShloMosaic.ValueIdx

theorem rowOf_apply (X : Vec Ideal S2x8x1024 .f32) (k : Fin 8) (b : Fin 2) (n : Fin 1024) :
    rowOf (F := Ideal) (ldRow X k) (ix2 b n) = X (ix3 b k n) :=
  shapeCast_apply _ _ _ (ix3 b 0 n) (by
    rw [Shape.rowMajor_val_three, Shape.rowMajor_val_two]; show (b.val * 1 + 0) * 1024 + n.val = b.val * 1024 + n.val; omega)

theorem flagF_apply {s : Shape} (x : IVec s 1) (i : s.Idx) : flagF (F := Ideal) x i = tf (x i == 1#1) := by
  show (((BitVec.setWidth 32 (x i)).toInt : ℝ) : EReal) = _
  generalize x i = v
  have : v = 0#1 ∨ v = 1#1 := by revert v; decide
  rcases this with rfl | rfl <;> simp [tf]

theorem down_apply (x : FVec Ideal S2x1024 .f32) (b : Fin 2) (i : Fin 1024) (j : Fin 128) :
    down x (ix3 b i j) = x (ix2 b i) :=
  (broadcastTo_apply _ _ _ (ix3 b i 0) fun a => by
    match a with
    | 0 => rfl
    | 1 => rfl
    | 2 => rfl).trans
  (shapeCast_apply _ _ _ (ix2 b i) (by
    rw [Shape.rowMajor_val_three, Shape.rowMajor_val_two]; show b.val * 1024 + i.val = (b.val * 1024 + i.val) * 1 + 0; omega))

theorem across_apply (x : FVec Ideal S2x128 .f32) (b : Fin 2) (i : Fin 1024) (j : Fin 128) :
    across x (ix3 b i j) = x (ix2 b j) :=
  (broadcastTo_apply _ _ _ (ix3 b 0 j) fun a => by
    match a with
    | 0 => rfl
    | 1 => rfl
    | 2 => rfl).trans
  (shapeCast_apply _ _ _ (ix2 b j) (by
    rw [Shape.rowMajor_val_three, Shape.rowMajor_val_two]; show b.val * 128 + j.val = (b.val * 1 + 0) * 128 + j.val; omega))

theorem slice_apply (lo : ℕ) (h : S2x1024.Slices ![0, lo] S2x128) (x : FVec Ideal S2x1024 .f32) (b : Fin 2) (j : Fin 128)
    (k : Fin 1024) (hk : k.val = lo + j.val) : extractStridedSlice S2x128 ![0, lo] x h (ix2 b j) = x (ix2 b k) :=
  extractStridedSlice_apply _ _ _ _ _ fun a => by
    match a with
    | 0 => exact (Nat.zero_add _).symm
    | 1 => exact hk

theorem gtAt_apply (lo : ℕ) (h : S2x1024.Slices ![0, lo] S2x128) (x1 y1 x2 y2 a : FVec Ideal S2x1024 .f32) (b : Fin 2)
    (i : Fin 1024) (j : Fin 128) (k : Fin 1024) (hk : k.val = lo + j.val) :
    gtAt lo h x1 y1 x2 y2 a (ix3 b i j) = tf (gtP (x1 (ix2 b i)) (y1 (ix2 b i)) (x2 (ix2 b i)) (y2 (ix2 b i)) (a (ix2 b i))
      (x1 (ix2 b k)) (y1 (ix2 b k)) (x2 (ix2 b k)) (y2 (ix2 b k)) (a (ix2 b k)) == 1#1) := by
  unfold gtAt gtOf
  rw [flagF_apply]
  rw [← slice_apply lo h x1 b j k hk, ← slice_apply lo h y1 b j k hk, ← slice_apply lo h x2 b j k hk,
    ← slice_apply lo h y2 b j k hk, ← slice_apply lo h a b j k hk]
  rw [← down_apply x1 b i j, ← down_apply y1 b i j, ← down_apply x2 b i j, ← down_apply y2 b i j, ← down_apply a b i j]
  rw [← across_apply (extractStridedSlice S2x128 ![0, lo] x1 h) b i j, ← across_apply (extractStridedSlice S2x128 ![0, lo] y1 h) b i j,
    ← across_apply (extractStridedSlice S2x128 ![0, lo] x2 h) b i j, ← across_apply (extractStridedSlice S2x128 ![0, lo] y2 h) b i j,
    ← across_apply (extractStridedSlice S2x128 ![0, lo] a h) b i j]
  rfl

theorem fold_max_tf {m : ℕ} (hm : 0 < m) (f : Fin m → EReal) (p : Fin m → Bool) (hf : ∀ k, f k = tf (p k)) :
    (Finset.univ : Finset (Fin m)).fold max ⊥ f = tf (decide (∃ k, p k = true)) := by
  apply le_antisymm
  · rw [Finset.fold_max_le]
    refine ⟨bot_le, fun k _ => ?_⟩
    rw [hf k]
    cases hp : p k
    · cases decide (∃ k, p k = true) <;> simp [tf]
    · rw [decide_eq_true ⟨k, hp⟩]
  · rw [Finset.le_fold_max]
    right
    by_cases h : ∃ k, p k = true
    · obtain ⟨k, hk⟩ := h
      exact ⟨k, Finset.mem_univ _, by rw [hf, hk, decide_eq_true ⟨k, hk⟩]⟩
    · refine ⟨⟨0, hm⟩, Finset.mem_univ _, ?_⟩
      rw [decide_eq_false h, hf]
      have : p ⟨0, hm⟩ = false := by
        cases hp : p ⟨0, hm⟩
        · rfl
        · exact absurd ⟨_, hp⟩ h
      rw [this]

theorem negInf_eq : Ideal.ofBits .f32 0xFF800000#32 = ⊥ := by simp [Ideal.ofBits, Ideal.ieee]

/-- Before a block's own steps its boxes have survived the kept boxes of the blocks before. -/
theorem init_apply (m : ℕ) (hm : 0 < m) (G : FVec Ideal (⟨3, ![2, m, 128]⟩ : Shape) .f32) (K : FVec Ideal (⟨2, ![2, m]⟩ : Shape) .f32)
    (hc : (⟨2, ![2, m]⟩ : Shape).ShapeCasts (⟨3, ![2, m, 1]⟩ : Shape))
    (hb : (⟨3, ![2, m, 1]⟩ : Shape).Broadcasts (⟨3, ![2, m, 128]⟩ : Shape))
    (hr : (⟨3, ![2, m, 128]⟩ : Shape).Reduces [1] S2x128) (hφ : FKind.Formats .f32)
    (hn : (0xFF800000#32 : BitVec (FTy.f32).bits) = FKind.maximumf.neutral .f32 hφ)
    (g : Fin 2 → ℕ → ℕ → Bool) (hG : ∀ b (i : Fin m) (j : Fin 128), G (ix3 b i j) = tf (g b i.val (m + j.val)))
    (hK : ∀ b (i : Fin m), K (ix2 b i) = tf (keepB (g b) i.val)) (b : Fin 2) (j : Fin 128) :
    freeOf (F := Ideal) (multiReduction .maximumf [1] S2x128 (mulf G (broadcastTo (⟨3, ![2, m, 128]⟩ : Shape)
      (shapeCast (⟨3, ![2, m, 1]⟩ : Shape) K hc) hb)) 0xFF800000#32 hr hφ hn) (ix2 b j) = tf (PK (g b) m (m + j.val)) := by
  show one - _ = _
  rw [Ideal.multiReduction_maximumf_single]
  have hl : ∀ k : Fin m, hr.lift (ix2 b j) k = ix3 b k j := fun k => by
    funext a
    apply Fin.ext
    match a with
    | 0 => rfl
    | 1 => rfl
    | 2 => rfl
  have hbc : ∀ k : Fin m, broadcastTo (⟨3, ![2, m, 128]⟩ : Shape) (shapeCast (⟨3, ![2, m, 1]⟩ : Shape) K hc) hb (ix3 b k j) = K (ix2 b k) := fun k =>
    (broadcastTo_apply _ _ _ (ix3 b k 0) fun a => by
      match a with
      | 0 => rfl
      | 1 =>
        show k.val = if m = 1 then 0 else k.val
        split
        · have := k.2; omega
        · rfl
      | 2 => rfl).trans
    (shapeCast_apply _ _ _ (ix2 b k) (by
      rw [Shape.rowMajor_val_three, Shape.rowMajor_val_two]; show b.val * m + k.val = (b.val * m + k.val) * 1 + 0; omega))
  have hf : ∀ k : Fin m, (mulf G (broadcastTo (⟨3, ![2, m, 128]⟩ : Shape) (shapeCast (⟨3, ![2, m, 1]⟩ : Shape) K hc) hb) ∘ hr.lift (ix2 b j)) k
      = tf (g b k.val (m + j.val) && keepB (g b) k.val) := fun k => by
    show (G (hr.lift (ix2 b j) k) : EReal) * broadcastTo _ _ hb (hr.lift (ix2 b j) k) = _
    rw [hl k, hbc k, hG, hK, tf_mul]
  have hfold := fold_max_tf hm _ _ hf
  show one - Finset.fold max (Ideal.ofBits .f32 0xFF800000#32) _ _ = _
  rw [negInf_eq]
  refine (congrArg (fun z => one - z) hfold).trans ?_
  show one - tf _ = _
  rw [one_eq, one_sub_tf]
  congr 1
  rw [Bool.eq_iff_iff]
  simp only [PK, Bool.not_eq_true', decide_eq_false_iff_not, decide_eq_true_eq, not_exists]
  exact ⟨fun h i hi _ => h ⟨i, hi⟩, fun h k => h k.val k.2 (by omega)⟩

theorem colIota_apply (b : Fin 2) (j : Fin 128) : colIota (ix2 b j) = BitVec.ofNat 32 j.val := by
  show BitVec.ofNat 32 (0 * 128 + j.val) = _
  rw [Nat.zero_mul, Nat.zero_add]

theorem boxIota_apply (b : Fin 2) (j : Fin 1024) : boxIota (ix2 b j) = BitVec.ofNat 32 j.val := by
  show BitVec.ofNat 32 (0 * 1024 + j.val) = _
  rw [Nat.zero_mul, Nat.zero_add]

/-- Row `i` of the block's table, only its later columns. -/
theorem maskedRow_apply (S : FVec Ideal S2x128x128 .f32) (i : ℕ) (hi : i < 128) (b : Fin 2) (j : Fin 128) :
    maskedRow S i (ix2 b j) = S (ix3 b ⟨i, hi⟩ j) * tf (decide (i < j.val)) := by
  unfold maskedRow
  show (shapeCast S2x128 _ _ (ix2 b j) : EReal) * (flagF (F := Ideal) _ (ix2 b j) : EReal) = _
  rw [flagF_apply]
  congr 1
  · refine (shapeCast_apply _ _ _ (ix3 b 0 j) ?_).trans ?_
    · rw [Shape.rowMajor_val_three, Shape.rowMajor_val_two]; show (b.val * 1 + 0) * 128 + j.val = b.val * 128 + j.val; omega
    · refine slice3_axis1_apply (n0 := 2) (n1 := 128) (n2 := 128) (m := 1) (i % 128) S _ b 0 j ⟨i, hi⟩ ?_
      show i = i % 128 + 0
      rw [Nat.mod_eq_of_lt hi]; rfl
  · congr 1
    show (BitVec.ofBool (BitVec.slt (BitVec.ofNat 32 i) (colIota (ix2 b j))) == 1#1) = decide (i < j.val)
    have hj := j.2
    rw [colIota_apply, slt_ofNat (by omega) (by omega), ofBool_one]

theorem steps_apply (S : FVec Ideal S2x128x128 .f32) (K : FVec Ideal S2x128 .f32) (g : Fin 2 → ℕ → ℕ → Bool) (lo : ℕ)
    (hS : ∀ b (i j : Fin 128), S (ix3 b i j) = tf (g b (lo + i.val) (lo + j.val)))
    (hK : ∀ b (j : Fin 128), K (ix2 b j) = tf (PK (g b) lo (lo + j.val))) :
    ∀ n ≤ 128, ∀ b (j : Fin 128), steps S K n (ix2 b j) = tf (PK (g b) (lo + n) (lo + j.val))
  | 0, _, b, j => hK b j
  | n + 1, hn, b, j => by
    have ih := steps_apply S K g lo hS hK n (by omega)
    show (steps S K n (ix2 b j) : EReal) * (one - maskedRow S n (ix2 b j) * broadcastTo S2x128 _ _ (ix2 b j)) = _
    have hb : broadcastTo S2x128 (extractStridedSlice S2x1 ![0, n % 128] (steps S K n) (col_slices n)) broadcasts_S2x1_S2x128 (ix2 b j)
        = steps S K n (ix2 b ⟨n, by omega⟩) :=
      (broadcastTo_apply _ _ _ (ix2 b 0) fun a => by
        match a with
        | 0 => rfl
        | 1 => rfl).trans
      (extractStridedSlice_apply _ _ _ _ _ fun a => by
        match a with
        | 0 => exact (Nat.zero_add _).symm
        | 1 => show n = n % 128 + 0; rw [Nat.mod_eq_of_lt (by omega)]; rfl)
    rw [hb, ih, ih, maskedRow_apply S n (by omega), hS, tf_mul, tf_mul, one_eq, one_sub_tf, tf_mul]
    congr 1
    show (PK (g b) (lo + n) (lo + j.val) && !(g b (lo + n) (lo + j.val) && decide (n < j.val) && PK (g b) (lo + n) (lo + n))) = _
    rw [show lo + (n + 1) = lo + n + 1 from rfl, PK_succ, PK_of_le (g b) (le_refl (lo + n)),
      show decide (lo + n < lo + j.val) = decide (n < j.val) from decide_eq_decide.mpr (by omega)]
    cases g b (lo + n) (lo + j.val) <;> cases keepB (g b) (lo + n) <;> cases decide (n < j.val) <;> rfl

/-- Blocks of equal width laid side by side. -/
theorem concat_blocks (L m : ℕ) (f : ℕ → FVec Ideal S2x128 .f32) (xs : List ((s : Shape) × (s.Idx → EReal)))
    (hxs : xs = (List.range L).map fun k => ⟨S2x128, f k⟩) (h : Shape.Concatenates (xs.map (·.1)) (⟨2, ![2, m]⟩ : Shape) 1)
    (hm : m = 128 * L) (q : Fin 2 → ℕ → EReal) (hf : ∀ k < L, ∀ b (j : Fin 128), f k (ix2 b j) = q b (128 * k + j.val))
    (b : Fin 2) (n : Fin m) : concatenate (⟨2, ![2, m]⟩ : Shape) 1 xs h (ix2 b n) = q b n.val := by
  subst hxs
  have hk : n.val / 128 < L := by have := n.2; omega
  refine (concatenate_apply_piece _ _ h (ix2 b n) (n.val / 128) (by simpa using hk) S2x128 (f (n.val / 128)) (by simp) rfl
    (128 * (n.val / 128)) ?_ (ix2 b ⟨n.val % 128, Nat.mod_lt _ (by decide)⟩) ?_ ?_).trans ?_
  · rw [← List.map_take, List.map_map, List.map_map, List.take_range, min_eq_left hk.le]
    rw [List.eq_replicate_of_mem (a := 128) (l := List.map _ _) ?_, List.sum_replicate]
    · simp; omega
    · intro x hx
      obtain ⟨y, _, rfl⟩ := List.mem_map.mp hx
      rfl
  · intro a ha
    match a with
    | 0 => rfl
    | 1 => exact absurd rfl ha
  · show 128 * (n.val / 128) + n.val % 128 = n.val
    omega
  · rw [hf _ hk]
    congr 1
    show 128 * (n.val / 128) + n.val % 128 = n.val
    omega

/-- A box of the padded array by its number. -/
def fi (n : ℕ) : Fin 1024 := ⟨n % 1024, Nat.mod_lt _ (by decide)⟩

theorem fi_val (i : Fin 1024) : fi i.val = i := Fin.ext (Nat.mod_eq_of_lt i.2)

section chain
variable (x1 y1 x2 y2 a : FVec Ideal S2x1024 .f32)

/-- The table of overlaps of the padded boxes. -/
def gK (b : Fin 2) (i j : ℕ) : Bool :=
  gtP (x1 (ix2 b (fi i))) (y1 (ix2 b (fi i))) (x2 (ix2 b (fi i))) (y2 (ix2 b (fi i))) (a (ix2 b (fi i)))
    (x1 (ix2 b (fi j))) (y1 (ix2 b (fi j))) (x2 (ix2 b (fi j))) (y2 (ix2 b (fi j))) (a (ix2 b (fi j))) == 1#1

theorem gtAt_tab (lo : ℕ) (hlo : lo + 128 ≤ 1024) (h : S2x1024.Slices ![0, lo] S2x128) (b : Fin 2) (i : Fin 1024) (j : Fin 128) :
    gtAt lo h x1 y1 x2 y2 a (ix3 b i j) = tf (gK x1 y1 x2 y2 a b i.val (lo + j.val)) := by
  have hj := j.2
  rw [gtAt_apply lo h x1 y1 x2 y2 a b i j (fi (lo + j.val)) (Nat.mod_eq_of_lt (by omega))]
  unfold gK
  rw [fi_val]

theorem own_apply (lo : ℕ) (hlo : lo + 128 ≤ 1024) (h : S2x1024.Slices ![0, lo] S2x128)
    (hS : S2x1024x128.Slices ![0, lo, 0] S2x128x128) (b : Fin 2) (i j : Fin 128) :
    extractStridedSlice S2x128x128 ![0, lo, 0] (gtAt lo h x1 y1 x2 y2 a) hS (ix3 b i j)
      = tf (gK x1 y1 x2 y2 a b (lo + i.val) (lo + j.val)) := by
  have hi := i.2
  rw [slice3_axis1_apply (n0 := 2) (n1 := 1024) (n2 := 128) (m := 128) lo _ hS b i j ⟨lo + i.val, by omega⟩ rfl,
    gtAt_tab x1 y1 x2 y2 a lo hlo]

theorem block_apply (lo : ℕ) (hpos : 0 < lo) (hlo : lo + 128 ≤ 1024) (h : S2x1024.Slices ![0, lo] S2x128)
    (hS : S2x1024x128.Slices ![0, lo, 0] S2x128x128) (hP : S2x1024x128.Slices ![0, 0, 0] (⟨3, ![2, lo, 128]⟩ : Shape))
    (K : FVec Ideal (⟨2, ![2, lo]⟩ : Shape) .f32) (hc : (⟨2, ![2, lo]⟩ : Shape).ShapeCasts (⟨3, ![2, lo, 1]⟩ : Shape))
    (hb : (⟨3, ![2, lo, 1]⟩ : Shape).Broadcasts (⟨3, ![2, lo, 128]⟩ : Shape))
    (hr : (⟨3, ![2, lo, 128]⟩ : Shape).Reduces [1] S2x128) (hφ : FKind.Formats .f32)
    (hn : (0xFF800000#32 : BitVec (FTy.f32).bits) = FKind.maximumf.neutral .f32 hφ)
    (hK : ∀ b (i : Fin lo), K (ix2 b i) = tf (keepB (gK x1 y1 x2 y2 a b) i.val)) (b : Fin 2) (j : Fin 128) :
    steps (extractStridedSlice S2x128x128 ![0, lo, 0] (gtAt lo h x1 y1 x2 y2 a) hS)
      (freeOf (multiReduction .maximumf [1] S2x128 (mulf (extractStridedSlice (⟨3, ![2, lo, 128]⟩ : Shape) ![0, 0, 0] (gtAt lo h x1 y1 x2 y2 a) hP)
        (broadcastTo (⟨3, ![2, lo, 128]⟩ : Shape) (shapeCast (⟨3, ![2, lo, 1]⟩ : Shape) K hc) hb)) 0xFF800000#32 hr hφ hn)) 128 (ix2 b j)
      = tf (keepB (gK x1 y1 x2 y2 a b) (lo + j.val)) := by
  have hj := j.2
  refine (steps_apply _ _ (gK x1 y1 x2 y2 a) lo (own_apply x1 y1 x2 y2 a lo hlo h hS) (fun b j => ?_) 128 le_rfl b j).trans ?_
  · refine init_apply lo hpos _ K hc hb hr hφ hn _ (fun b i j => ?_) hK b j
    have hi := i.2
    rw [slice3_axis1_apply (n0 := 2) (n1 := 1024) (n2 := 128) (m := lo) 0 _ hP b i j ⟨i.val, by omega⟩ (Nat.zero_add _).symm,
      gtAt_tab x1 y1 x2 y2 a lo hlo]
  · rw [PK_of_le _ (by omega)]

/-- The blocks by number. -/
def blk : ℕ → FVec Ideal S2x128 .f32
  | 0 => B0 x1 y1 x2 y2 a
  | 1 => B1 x1 y1 x2 y2 a
  | 2 => B2 x1 y1 x2 y2 a
  | 3 => B3 x1 y1 x2 y2 a
  | 4 => B4 x1 y1 x2 y2 a
  | 5 => B5 x1 y1 x2 y2 a
  | 6 => B6 x1 y1 x2 y2 a
  | _ => B7 x1 y1 x2 y2 a

/-- The first `L` blocks hold the kept boxes. -/
def Upto (L : ℕ) : Prop := ∀ k < L, ∀ b (j : Fin 128), blk x1 y1 x2 y2 a k (ix2 b j) = tf (keepB (gK x1 y1 x2 y2 a b) (128 * k + j.val))

theorem Upto.succ {L : ℕ} (h : Upto x1 y1 x2 y2 a L)
    (hL : ∀ b (j : Fin 128), blk x1 y1 x2 y2 a L (ix2 b j) = tf (keepB (gK x1 y1 x2 y2 a b) (128 * L + j.val))) :
    Upto x1 y1 x2 y2 a (L + 1) := fun k hk b j => by
  by_cases e : k = L
  · subst e; exact hL b j
  · exact h k (by omega) b j

/-- The kept boxes of the blocks so far, side by side. -/
theorem prior {L m : ℕ} (hU : Upto x1 y1 x2 y2 a L) (hm : m = 128 * L) (xs : List ((s : Shape) × (s.Idx → EReal)))
    (hxs : xs = (List.range L).map fun k => ⟨S2x128, blk x1 y1 x2 y2 a k⟩) (h : Shape.Concatenates (xs.map (·.1)) (⟨2, ![2, m]⟩ : Shape) 1)
    (b : Fin 2) (n : Fin m) : concatenate (⟨2, ![2, m]⟩ : Shape) 1 xs h (ix2 b n) = tf (keepB (gK x1 y1 x2 y2 a b) n.val) :=
  concat_blocks L m (blk x1 y1 x2 y2 a) xs hxs h hm (fun b n => tf (keepB (gK x1 y1 x2 y2 a b) n)) hU b n

theorem upto1 : Upto x1 y1 x2 y2 a 1 := fun k hk b j => by
  have e : k = 0 := by omega
  subst e
  refine (steps_apply _ _ (gK x1 y1 x2 y2 a) 0 (own_apply x1 y1 x2 y2 a 0 (by decide) slices_S2x1024_o0_0_S2x128 slices_S2x1024x128_o0_0_0_S2x128x128)
    (fun b j => ?_) 128 le_rfl b j).trans ?_
  · rw [PK_zero]; exact one_eq
  · have hj := j.2
    rw [PK_of_le _ (by omega)]

theorem upto2 : Upto x1 y1 x2 y2 a 2 := (upto1 x1 y1 x2 y2 a).succ _ _ _ _ _ fun b j =>
  block_apply x1 y1 x2 y2 a 128 (by decide) (by decide) slices_S2x1024_o0_128_S2x128 _ _ _ _ _ _ _ _
    (fun b i => (upto1 x1 y1 x2 y2 a 0 (by decide) b i).trans (by rw [Nat.mul_zero, Nat.zero_add])) b j
theorem upto3 : Upto x1 y1 x2 y2 a 3 := (upto2 x1 y1 x2 y2 a).succ _ _ _ _ _ fun b j =>
  block_apply x1 y1 x2 y2 a 256 (by decide) (by decide) slices_S2x1024_o0_256_S2x128 _ _ _ _ _ _ _ _
    (prior x1 y1 x2 y2 a (upto2 x1 y1 x2 y2 a) rfl _ rfl concatenates_S2x128_S2x128_S2x256_d1) b j
theorem upto4 : Upto x1 y1 x2 y2 a 4 := (upto3 x1 y1 x2 y2 a).succ _ _ _ _ _ fun b j =>
  block_apply x1 y1 x2 y2 a 384 (by decide) (by decide) slices_S2x1024_o0_384_S2x128 _ _ _ _ _ _ _ _
    (prior x1 y1 x2 y2 a (upto3 x1 y1 x2 y2 a) rfl _ rfl concatenates_S2x128_S2x128_S2x128_S2x384_d1) b j
theorem upto5 : Upto x1 y1 x2 y2 a 5 := (upto4 x1 y1 x2 y2 a).succ _ _ _ _ _ fun b j =>
  block_apply x1 y1 x2 y2 a 512 (by decide) (by decide) slices_S2x1024_o0_512_S2x128 _ _ _ _ _ _ _ _
    (prior x1 y1 x2 y2 a (upto4 x1 y1 x2 y2 a) rfl _ rfl concatenates_S2x128_S2x128_S2x128_S2x128_S2x512_d1) b j
theorem upto6 : Upto x1 y1 x2 y2 a 6 := (upto5 x1 y1 x2 y2 a).succ _ _ _ _ _ fun b j =>
  block_apply x1 y1 x2 y2 a 640 (by decide) (by decide) slices_S2x1024_o0_640_S2x128 _ _ _ _ _ _ _ _
    (prior x1 y1 x2 y2 a (upto5 x1 y1 x2 y2 a) rfl _ rfl concatenates_S2x128_S2x128_S2x128_S2x128_S2x128_S2x640_d1) b j
theorem upto7 : Upto x1 y1 x2 y2 a 7 := (upto6 x1 y1 x2 y2 a).succ _ _ _ _ _ fun b j =>
  block_apply x1 y1 x2 y2 a 768 (by decide) (by decide) slices_S2x1024_o0_768_S2x128 _ _ _ _ _ _ _ _
    (prior x1 y1 x2 y2 a (upto6 x1 y1 x2 y2 a) rfl _ rfl concatenates_S2x128_S2x128_S2x128_S2x128_S2x128_S2x128_S2x768_d1) b j
theorem upto8 : Upto x1 y1 x2 y2 a 8 := (upto7 x1 y1 x2 y2 a).succ _ _ _ _ _ fun b j =>
  block_apply x1 y1 x2 y2 a 896 (by decide) (by decide) slices_S2x1024_o0_896_S2x128 _ _ _ _ _ _ _ _
    (prior x1 y1 x2 y2 a (upto7 x1 y1 x2 y2 a) rfl _ rfl concatenates_S2x128_S2x128_S2x128_S2x128_S2x128_S2x128_S2x128_S2x896_d1) b j

/-- The kept boxes. -/
theorem keepV_apply (b : Fin 2) (n : Fin 1024) : keepV x1 y1 x2 y2 a (ix2 b n) = tf (keepB (gK x1 y1 x2 y2 a b) n.val) :=
  prior x1 y1 x2 y2 a (upto8 x1 y1 x2 y2 a) rfl _ rfl concatenates_S2x128_S2x128_S2x128_S2x128_S2x128_S2x128_S2x128_S2x128_S2x1024_d1 b n
end chain

end Cert.KernelIdeal.Value

end
-- ==== Proof.KernelVal.lean ====
/- The kernel's result, box by box. -/
module

public import proofs.«01_k».proof.Proof.Blocks
public import Idealize.ShloMosaic.Lib.MatmulPlain

@[expose] public section

set_option maxRecDepth 16384

noncomputable section

namespace Cert.KernelIdeal.Value

open Cert.KernelIdeal Cert.KernelIdeal.Gen Cert.Model Idealize.ShloMosaic Idealize.ShloMosaic.ValueIdx

section raw
variable (h w : BitVec 32) (X : Vec Ideal S2x8x1024 .f32) (b : Fin 2) (n : ℕ)

/-- A padded box as it comes in. -/
def Rk (b : Fin 2) (n : ℕ) : Raw := fun k => X (ix3 b k (fi n))

theorem bX1_apply : bX1 (F := Ideal) w (ldRow X 0) (ldRow X 2) (ix2 b (fi n)) = X1 (num w) (Rk X b n) := by
  show clipS (num w) (rowOf (F := Ideal) (ldRow X 0) (ix2 b (fi n)) - rowOf (F := Ideal) (ldRow X 2) (ix2 b (fi n)) : EReal) = _
  rw [rowOf_apply, rowOf_apply]; rfl
theorem bY1_apply : bY1 (F := Ideal) h (ldRow X 1) (ldRow X 3) (ix2 b (fi n)) = Y1 (num h) (Rk X b n) := by
  show clipS (num h) (rowOf (F := Ideal) (ldRow X 1) (ix2 b (fi n)) - rowOf (F := Ideal) (ldRow X 3) (ix2 b (fi n)) : EReal) = _
  rw [rowOf_apply, rowOf_apply]; rfl
theorem bX2_apply : bX2 (F := Ideal) w (ldRow X 0) (ldRow X 4) (ix2 b (fi n)) = X2 (num w) (Rk X b n) := by
  show clipS (num w) (rowOf (F := Ideal) (ldRow X 0) (ix2 b (fi n)) + rowOf (F := Ideal) (ldRow X 4) (ix2 b (fi n)) : EReal) = _
  rw [rowOf_apply, rowOf_apply]; rfl
theorem bY2_apply : bY2 (F := Ideal) h (ldRow X 1) (ldRow X 5) (ix2 b (fi n)) = Y2 (num h) (Rk X b n) := by
  show clipS (num h) (rowOf (F := Ideal) (ldRow X 1) (ix2 b (fi n)) + rowOf (F := Ideal) (ldRow X 5) (ix2 b (fi n)) : EReal) = _
  rw [rowOf_apply, rowOf_apply]; rfl

theorem bValid_apply : bValid (F := Ideal) h w (ldRow X 0) (ldRow X 1) (ldRow X 2) (ldRow X 3) (ldRow X 4) (ldRow X 5) (ldRow X 6)
    (ix2 b (fi n)) = validS (num h) (num w) (Rk X b n) := by
  unfold validS
  rw [← bX1_apply, ← bX2_apply, ← bY1_apply, ← bY2_apply, show Rk X b n 6 = rowOf (F := Ideal) (ldRow X 6) (ix2 b (fi n)) from
    (rowOf_apply X 6 b (fi n)).symm]
  rfl

theorem offBy_apply (x : FVec Ideal S2x1024 .f32) (y : EReal) (hx : x (ix2 b (fi n)) = y) :
    offBy (rowOf (F := Ideal) (ldRow X 7)) x (ix2 b (fi n)) = offS (Rk X b n) y := by
  subst hx
  show (x (ix2 b (fi n)) + rowOf (F := Ideal) (ldRow X 7) (ix2 b (fi n)) * cls : EReal) = _
  rw [rowOf_apply]; rfl

theorem bKeep_apply (i : Fin 1024) : bKeep (F := Ideal) h w (ldRow X 0) (ldRow X 1) (ldRow X 2) (ldRow X 3) (ldRow X 4) (ldRow X 5) (ldRow X 7)
    (ix2 b i) = tf (keepB (gTab (num h) (num w) (Rk X b)) i.val) := by
  refine (keepV_apply _ _ _ _ _ b i).trans ?_
  congr 2
  funext i j
  have e1 := fun k => offBy_apply X b k _ _ (bX1_apply w X b k)
  have e2 := fun k => offBy_apply X b k _ _ (bY1_apply h X b k)
  have e3 := fun k => offBy_apply X b k _ _ (bX2_apply w X b k)
  have e4 := fun k => offBy_apply X b k _ _ (bY2_apply h X b k)
  unfold gK gTab gtS
  rw [← e1 i, ← e2 i, ← e3 i, ← e4 i, ← e1 j, ← e2 j, ← e3 j, ← e4 j]
  rfl
end raw

theorem half_eq : Ideal.ofBits .f32 0x3F000000#32 = ((1 / 2 : ℝ) : EReal) := by
  simp [Ideal.ofBits, Ideal.ieee, -EReal.coe_mul]; norm_num

theorem tf_gt_half (k : Bool) : (Ideal.cmp .ogt (tf k) (Ideal.ofBits .f32 0x3F000000#32) == 1#1) = k := by
  rw [half_eq]
  show (BitVec.ofBool (decide (_ < _)) == 1#1) = k
  rw [ofBool_one]
  cases k
  · refine decide_eq_false ?_
    show ¬ (((1 / 2 : ℝ) : EReal) < ((0 : ℝ) : EReal))
    rw [EReal.coe_lt_coe_iff]; norm_num
  · refine decide_eq_true ?_
    show ((1 / 2 : ℝ) : EReal) < ((1 : ℝ) : EReal)
    rw [EReal.coe_lt_coe_iff]; norm_num

theorem tf_gt_zero (k : Bool) : (Ideal.cmp .ogt (tf k) zero == 1#1) = k := by
  rw [zero_eq]
  show (BitVec.ofBool (decide (_ < _)) == 1#1) = k
  rw [ofBool_one]
  cases k <;> simp [tf]

section sel
variable (keepf : FVec Ideal S2x1024 .f32) (valid : IVec S2x1024 1) (b : Fin 2) (kp va : ℕ → Bool)
  (hk : ∀ i : Fin 1024, keepf (ix2 b i) = tf (kp i.val)) (hv : ∀ i : Fin 1024, (valid (ix2 b i) == 1#1) = va i.val)

include hk hv

theorem keptValid_apply (i : Fin 1024) : (keptValid keepf valid (ix2 b i) == 1#1) = (kp i.val && va i.val) := by
  show ((Ideal.cmp .ogt (keepf (ix2 b i)) (Ideal.ofBits .f32 0x3F000000#32) &&& valid (ix2 b i)) == 1#1) = _
  rw [and_bit, hk, tf_gt_half, hv]

omit hk hv in
theorem realV_apply (i : Fin 1024) : (realV (ix2 b i) == 1#1) = decide (i.val < 1000) := by
  show (BitVec.ofBool (BitVec.slt (boxIota (ix2 b i)) (BitVec.ofNat 32 1000)) == 1#1) = _
  have hi := i.2
  rw [boxIota_apply, slt_ofNat (by omega) (by omega), ofBool_one]

theorem firstV_apply (i : Fin 1024) : firstV keepf valid (ix2 b i) = tf (decide ((kp i.val && va i.val) = true ∧ i.val < 1000)) := by
  unfold firstV
  rw [flagF_apply]
  show tf ((keptValid keepf valid (ix2 b i) &&& realV (ix2 b i)) == 1#1) = _
  rw [and_bit, keptValid_apply keepf valid b kp va hk hv, realV_apply]
  congr 1
  rw [Bool.eq_iff_iff]; simp

theorem restV_apply (i : Fin 1024) : restV keepf valid (ix2 b i) = tf (decide (¬ (kp i.val && va i.val) = true ∧ i.val < 1000)) := by
  unfold restV
  rw [flagF_apply]
  show tf (((keptValid keepf valid (ix2 b i) ^^^ 1#1) &&& realV (ix2 b i)) == 1#1) = _
  rw [and_bit, realV_apply]
  have hx : ∀ v : BitVec 1, ((v ^^^ 1#1) == 1#1) = !(v == 1#1) := by decide
  rw [hx, keptValid_apply keepf valid b kp va hk hv]
  congr 1
  rw [Bool.eq_iff_iff]; simp
end sel

theorem triV_apply (m n : Fin 1024) : triV (F := Ideal) (ix2 m n) = tf (decide (m.val ≤ n.val)) := by
  unfold triV
  rw [flagF_apply]
  have e0 : iota .tc S1024x1024 32 [0] iota_S1024x1024_d0_w32 (ix2 m n) = BitVec.ofNat 32 m.val := by
    show BitVec.ofNat 32 (0 * 1024 + m.val) = _
    rw [Nat.zero_mul, Nat.zero_add]
  have e1 : iota .tc S1024x1024 32 [1] iota_S1024x1024_d1_w32 (ix2 m n) = BitVec.ofNat 32 n.val := by
    show BitVec.ofNat 32 (0 * 1024 + n.val) = _
    rw [Nat.zero_mul, Nat.zero_add]
  show tf (BitVec.ofBool (BitVec.sle (iota .tc S1024x1024 32 [0] iota_S1024x1024_d0_w32 (ix2 m n))
    (iota .tc S1024x1024 32 [1] iota_S1024x1024_d1_w32 (ix2 m n))) == 1#1) = _
  have hm := m.2
  have hn := n.2
  rw [e0, e1, sle_ofNat (by omega) (by omega), ofBool_one]

theorem countV_apply (x : FVec Ideal S2x1024 .f32) (b : Fin 2) (q : ℕ → Prop) [DecidablePred q]
    (hx : ∀ i : Fin 1024, x (ix2 b i) = tf (decide (q i.val))) (n : Fin 1024) :
    countV x (ix2 b n) = (((Nat.count q (n.val + 1) : ℕ) : ℝ) : EReal) := by
  refine (Ideal.matmul_plain_apply (M := 2) (K := 1024) (N := 1024) none x triV (constant S2x1024 .f32 0x00000000#32) b n).trans ?_
  show zero + _ = _
  rw [zero_eq, zero_add, Finset.sum_congr rfl fun k _ => by rw [hx k, triV_apply k n]]
  exact sum_tf 1024 q n.val n.2

theorem count_bound (p : ℕ → Prop) [DecidablePred p] {n : ℕ} (hn : n ≤ 1000) :
    Nat.count (fun k => p k ∧ k < 1000) n = Nat.count p n := by
  rw [Nat.count_eq_card_filter_range, Nat.count_eq_card_filter_range]
  congr 1
  refine Finset.filter_congr fun k hk => ?_
  have := Finset.mem_range.mp hk
  exact ⟨fun h => h.1, fun h => ⟨h, by omega⟩⟩

theorem count_all (p : ℕ → Prop) [DecidablePred p] : Nat.count (fun k => p k ∧ k < 1000) 1024 = Nat.count p 1000 := by
  rw [Nat.count_eq_card_filter_range, Nat.count_eq_card_filter_range]
  congr 1
  ext k
  simp only [Finset.mem_filter, Finset.mem_range]
  exact ⟨fun h => ⟨h.2.2, h.2.1⟩, fun h => ⟨by omega, h.2, h.1⟩⟩

/-- The row each box goes to. -/
theorem posV_apply (x y : FVec Ideal S2x1024 .f32) (b : Fin 2) (q : ℕ → Prop) [DecidablePred q]
    (hx : ∀ i : Fin 1024, x (ix2 b i) = tf (decide (q i.val ∧ i.val < 1000)))
    (hy : ∀ i : Fin 1024, y (ix2 b i) = tf (decide (¬ q i.val ∧ i.val < 1000))) (n : Fin 1024) :
    posV x y (ix2 b n) = if n.val < 1000 then (((posOf q 1000 n.val : ℕ) : ℝ) : EReal) else Ideal.ofBits .f32 0x4E6E6B28#32 := by
  have hc1 := countV_apply x b (fun k => q k ∧ k < 1000) hx
  have hc2 := countV_apply y b (fun k => ¬ q k ∧ k < 1000) hy
  have htot : broadcastTo S2x1024 (extractStridedSlice S2x1 ![0, 1023] (countV x) slices_S2x1024_o0_1023_S2x1) broadcasts_S2x1_S2x1024 (ix2 b n)
      = countV x (ix2 b ⟨1023, by decide⟩) :=
    (broadcastTo_apply _ _ _ (ix2 b 0) fun a => by
      match a with
      | 0 => rfl
      | 1 => rfl).trans
    (extractStridedSlice_apply _ _ _ _ _ fun a => by
      match a with
      | 0 => exact (Nat.zero_add _).symm
      | 1 => rfl)
  show Scalar.select (Ideal.cmp .ogt (x (ix2 b n)) zero) (countV x (ix2 b n) - one : EReal)
    (Scalar.select (Ideal.cmp .ogt (y (ix2 b n)) zero)
      ((broadcastTo S2x1024 (extractStridedSlice S2x1 ![0, 1023] (countV x) slices_S2x1024_o0_1023_S2x1) broadcasts_S2x1_S2x1024 (ix2 b n)
        + countV y (ix2 b n)) - one : EReal) (Ideal.ofBits .f32 0x4E6E6B28#32)) = _
  have hT : countV x (ix2 b ⟨1023, by decide⟩) = (((Nat.count q 1000 : ℕ) : ℝ) : EReal) :=
    (hc1 _).trans (by rw [← count_all q])
  rw [htot, hT, hc1, hc2, hx, hy]
  have hs : ∀ (k : Bool) (u v : EReal), Scalar.select (Ideal.cmp .ogt (tf k) zero) u v = if k then u else v := by
    intro k u v
    have := tf_gt_zero k
    cases k
    · rw [show Ideal.cmp .ogt (tf false) zero = 0#1 from eq_zero_of_ne_one fun h => by rw [h] at this; exact absurd this (by decide)]; rfl
    · rw [eq_of_beq this]; rfl
  rw [hs, hs, one_eq]
  by_cases hn : n.val < 1000
  · rw [if_pos hn]
    unfold posOf
    by_cases hq : q n.val
    · rw [decide_eq_true ⟨hq, hn⟩, if_pos rfl, if_pos hq, count_bound q (by omega), Nat.count_succ, if_pos hq, ← EReal.coe_one, ← EReal.coe_sub]
      congr 1; push_cast; ring
    · rw [decide_eq_false (fun h => hq h.1), if_neg (by decide), decide_eq_true ⟨hq, hn⟩, if_pos rfl, if_neg hq,
        count_bound (fun k => ¬ q k) (by omega), Nat.count_succ (fun k => ¬ q k), if_pos hq, ← EReal.coe_one, ← EReal.coe_add, ← EReal.coe_sub]
      congr 1; push_cast; ring
  · rw [if_neg hn, decide_eq_false (fun h => hn h.2), if_neg (by decide), decide_eq_false (fun h => hn h.2), if_neg (by decide)]

theorem col_piece (xs : List ((s : Shape) × (s.Idx → EReal))) (h : Shape.Concatenates (xs.map (·.1)) S2x1024x8 2) (k : ℕ)
    (hk : k < xs.length) (x : FVec Ideal S2x1024 .f32) (hxk : xs[k] = ⟨S2x1024x1, shapeCast S2x1024x1 x shapeCasts_S2x1024_S2x1024x1⟩)
    (hpre : (((xs.take k).map (·.1)).map fun s => if h : s.rank = S2x1024x8.rank then s.size ((2 : Fin S2x1024x8.rank).cast h.symm) else 0).sum = k)
    (b : Fin 2) (n : Fin 1024) (c : Fin 8) (hc : c.val = k) : concatenate S2x1024x8 2 xs h (ix3 b n c) = x (ix2 b n) :=
  (concatenate_apply_piece _ xs h (ix3 b n c) k hk S2x1024x1 _ hxk rfl k hpre (ix3 b n 0) (fun a ha => by
      match a with
      | 0 => rfl
      | 1 => rfl
      | 2 => exact absurd rfl ha) hc.symm).trans
  (shapeCast_apply _ _ _ (ix2 b n) (by
    rw [Shape.rowMajor_val_three, Shape.rowMajor_val_two]; show b.val * 1024 + n.val = (b.val * 1024 + n.val) * 1 + 0; omega))

theorem dataV_apply (x1 y1 x2 y2 ks lab : FVec Ideal S2x1024 .f32) (b : Fin 2) (n : Fin 1024) (c : Fin 6) :
    dataV x1 y1 x2 y2 ks lab (ix3 b n (c.castLE (by decide))) = ![x1 (ix2 b n), y1 (ix2 b n), x2 (ix2 b n), y2 (ix2 b n), ks (ix2 b n), lab (ix2 b n)] c := by
  unfold dataV
  match c with
  | 0 => exact col_piece _ _ 0 (by simp) _ rfl rfl b n _ rfl
  | 1 => exact col_piece _ _ 1 (by simp) _ rfl rfl b n _ rfl
  | 2 => exact col_piece _ _ 2 (by simp) _ rfl rfl b n _ rfl
  | 3 => exact col_piece _ _ 3 (by simp) _ rfl rfl b n _ rfl
  | 4 => exact col_piece _ _ 4 (by simp) _ rfl rfl b n _ rfl
  | 5 => exact col_piece _ _ 5 (by simp) _ rfl rfl b n _ rfl

theorem outRows_apply (p : FVec Ideal S1x1024 .f32) (d : FVec Ideal S1x1024x8 .f32) (r : Fin 100) (c : Fin 6) :
    outRows p d (ix3 0 r c) = ∑ n : Fin 1024, tf (decide (p (ix2 0 n) = (((r.val : ℕ) : ℝ) : EReal))) * (d (ix3 0 n (c.castLE (by decide))) : EReal) := by
  unfold outRows
  refine (shapeCast_apply _ _ _ (ix2 r c) (by
    rw [Shape.rowMajor_val_three, Shape.rowMajor_val_two]; show r.val * 6 + c.val = (0 * 100 + r.val) * 6 + c.val; omega)).trans ?_
  have hr := r.2
  refine (extractStridedSlice_apply _ _ _ _ (ix2 (⟨r.val, by omega⟩ : Fin 128) (c.castLE (by decide) : Fin 8)) fun a => by
    match a with
    | 0 => exact (Nat.zero_add _).symm
    | 1 => exact (Nat.zero_add _).symm).trans ?_
  refine (Ideal.matmul_plain_apply (M := 128) (K := 1024) (N := 8) (some .fp32) _ _ _ _ _).trans ?_
  show zero + _ = _
  rw [zero_eq, zero_add]
  refine Finset.sum_congr rfl fun n _ => ?_
  congr 1
  · refine (transpose_apply _ _ _ _ (ix2 n (⟨r.val, by omega⟩ : Fin 128)) fun a => by
      match a with
      | 0 => rfl
      | 1 => rfl).trans ?_
    rw [flagF_apply]
    congr 1
    have e1 : broadcastTo S1024x128 (shapeCast S1024x1 (shapeCast S1024 p shapeCasts_S1x1024_S1024) shapeCasts_S1024_S1024x1)
        broadcasts_S1024x1_S1024x128 (ix2 n (⟨r.val, by omega⟩ : Fin 128)) = p (ix2 0 n) :=
      (broadcastTo_apply _ _ _ (ix2 n 0) fun a => by
        match a with
        | 0 => rfl
        | 1 => rfl).trans
      ((shapeCast_apply _ _ _ (ix1 n) (by
        rw [Shape.rowMajor_val_two, Shape.rowMajor_val_one]; show n.val = n.val * 1 + 0; omega)).trans
      (shapeCast_apply _ _ _ (ix2 0 n) (by
        rw [Shape.rowMajor_val_two, Shape.rowMajor_val_one]; show 0 * 1024 + n.val = n.val; omega)))
    have e2 : iota .tc S1024x128 32 [1] iota_S1024x128_d1_w32 (ix2 n (⟨r.val, by omega⟩ : Fin 128)) = BitVec.ofNat 32 r.val := by
      show BitVec.ofNat 32 (0 * 128 + r.val) = _
      rw [Nat.zero_mul, Nat.zero_add]
    show (BitVec.ofBool (decide (broadcastTo S1024x128 (shapeCast S1024x1 (shapeCast S1024 p shapeCasts_S1x1024_S1024) shapeCasts_S1024_S1024x1)
        broadcasts_S1024x1_S1024x128 (ix2 n (⟨r.val, by omega⟩ : Fin 128)) = num (iota .tc S1024x128 32 [1] iota_S1024x128_d1_w32
          (ix2 n (⟨r.val, by omega⟩ : Fin 128))))) == 1#1) = _
    rw [ofBool_one, e1, e2]
    unfold num
    rw [toInt_small (by omega), Int.cast_natCast]
  · exact shapeCast_apply _ _ _ (ix3 0 n (c.castLE (by decide))) (by
      rw [Shape.rowMajor_val_three, Shape.rowMajor_val_two]
      show (0 * 1024 + n.val) * 8 + c.val = n.val * 8 + c.val; omega)

theorem big_eq : Ideal.ofBits .f32 0x4E6E6B28#32 = ((1000000000 : ℝ) : EReal) := by
  simp [Ideal.ofBits, Ideal.ieee, -EReal.coe_mul]; norm_num

/-- One row of the result is one box's data. -/
theorem pick (q : ℕ → Prop) [DecidablePred q] (p : Fin 1024 → EReal) (D : Fin 1024 → EReal)
    (hp : ∀ n, p n = if n.val < 1000 then (((posOf q 1000 n.val : ℕ) : ℝ) : EReal) else Ideal.ofBits .f32 0x4E6E6B28#32) (r : Fin 100) :
    ∑ n : Fin 1024, tf (decide (p n = (((r.val : ℕ) : ℝ) : EReal))) * D n = D ((boxAt q 1000 (r.castLE (by decide))).castLE (by decide)) := by
  rw [Finset.sum_eq_single ((boxAt q 1000 (r.castLE (by decide))).castLE (by decide))]
  · have e := (boxAt_eq_iff q 1000 _ (r.castLE (by decide))).mp rfl
    rw [hp, if_pos (show ((boxAt q 1000 (r.castLE (by decide))).castLE (by decide) : Fin 1024).val < 1000 from (boxAt q 1000 (r.castLE (by decide))).2), decide_eq_true]
    · exact one_mul _
    · show (((posOf q 1000 (boxAt q 1000 (r.castLE (by decide))).val : ℕ) : ℝ) : EReal) = _
      rw [e]; rfl
  · intro n _ hne
    rw [decide_eq_false]
    · exact zero_mul _
    · rw [hp]
      have hr := r.2
      split
      · rename_i hn
        intro h
        rw [EReal.coe_eq_coe_iff, Nat.cast_inj] at h
        apply hne
        have := (boxAt_eq_iff q 1000 ⟨n.val, hn⟩ (r.castLE (by decide))).mpr h
        rw [this]; rfl
      · intro h
        rw [big_eq, EReal.coe_eq_coe_iff] at h
        have h' : (1000000000 : ℕ) = r.val := by exact_mod_cast h
        omega
  · intro h; exact absurd (Finset.mem_univ _) h

section out
variable (h w : BitVec 32) (X : Vec Ideal S2x8x1024 .f32)

theorem out_eq (b : Fin 2) (r : Fin 100) (c : Fin 6) (p : FVec Ideal S1x1024 .f32) (d : FVec Ideal S1x1024x8 .f32)
    (hp : ∀ n : Fin 1024, p (ix2 0 n) = bPos (F := Ideal) h w (ldRow X 0) (ldRow X 1) (ldRow X 2) (ldRow X 3) (ldRow X 4) (ldRow X 5) (ldRow X 6) (ldRow X 7) (ix2 b n))
    (hd : ∀ (n : Fin 1024) (k : Fin 8), d (ix3 0 n k) = bData (F := Ideal) h w (ldRow X 0) (ldRow X 1) (ldRow X 2) (ldRow X 3) (ldRow X 4) (ldRow X 5) (ldRow X 6) (ldRow X 7) (ix3 b n k)) :
    outRows p d (ix3 0 r c) = specOut (num h) (num w) (Rk X b) (r.castLE (by decide)) c := by
  have hk := bKeep_apply h w X b
  have hv : ∀ i : Fin 1024, (bValid (F := Ideal) h w (ldRow X 0) (ldRow X 1) (ldRow X 2) (ldRow X 3) (ldRow X 4) (ldRow X 5) (ldRow X 6) (ix2 b i) == 1#1)
      = (fun n => validS (num h) (num w) (Rk X b n) == 1#1) i.val := fun i => by
    have := bValid_apply h w X b i.val
    rw [fi_val] at this
    rw [this]
  have hpos := posV_apply _ _ b (fun n => kvB (num h) (num w) (Rk X b) n = true)
    (firstV_apply _ _ b _ (fun n => validS (num h) (num w) (Rk X b n) == 1#1) hk hv) (restV_apply _ _ b _ (fun n => validS (num h) (num w) (Rk X b n) == 1#1) hk hv)
  rw [outRows_apply]
  refine (pick (fun n => kvB (num h) (num w) (Rk X b) n = true) (fun n => p (ix2 0 n)) (fun n => d (ix3 0 n (c.castLE (by decide))))
    (fun n => (hp n).trans (hpos n)) r).trans ?_
  show d _ = _
  rw [hd]
  unfold bData specOut
  rw [dataV_apply]
  generalize boxAt (fun n => kvB (num h) (num w) (Rk X b) n = true) 1000 (r.castLE (by decide)) = m
  have hfi : (m.castLE (by decide) : Fin 1024) = fi m.val := (fi_val (m.castLE (by decide))).symm
  unfold colS
  have e7 : (rowOf (F := Ideal) (ldRow X 7) (ix2 b (m.castLE (by decide))) : EReal) = Rk X b m.val 7 := by
    rw [rowOf_apply, hfi]; rfl
  have e6 : (rowOf (F := Ideal) (ldRow X 6) (ix2 b (m.castLE (by decide))) : EReal) = Rk X b m.val 6 := by
    rw [rowOf_apply, hfi]; rfl
  have e5 : mulf (F := Ideal) (mulf (F := Ideal) (rowOf (ldRow X 6)) (flagF (bValid (F := Ideal) h w (ldRow X 0) (ldRow X 1) (ldRow X 2) (ldRow X 3) (ldRow X 4) (ldRow X 5) (ldRow X 6))))
      (bKeep (F := Ideal) h w (ldRow X 0) (ldRow X 1) (ldRow X 2) (ldRow X 3) (ldRow X 4) (ldRow X 5) (ldRow X 7)) (ix2 b (m.castLE (by decide)))
      = Rk X b m.val 6 * tf (validS (num h) (num w) (Rk X b m.val) == 1#1) * tf (keepB (gTab (num h) (num w) (Rk X b)) m.val) := by
    show ((rowOf (F := Ideal) (ldRow X 6) (ix2 b (m.castLE (by decide))) : EReal) * flagF (F := Ideal) _ (ix2 b (m.castLE (by decide))) : EReal) * _ = _
    rw [e6, flagF_apply, hv, hk]; rfl
  rw [e5, e7, hfi, bX1_apply, bY1_apply, bX2_apply, bY2_apply]

/-- The kernel's result. -/
theorem outAll_apply (z : Vec Ideal S1x2 .i32) (b : Fin 2) (r : Fin 100) (c : Fin 6) :
    outAll (F := Ideal) z X (ix3 b r c) = specOut (num (z (ix2 0 0))) (num (z (ix2 0 1))) (Rk X b) (r.castLE (by decide)) c := by
  unfold outAll
  match b with
  | 0 =>
    refine (if_pos rfl).trans (out_eq _ _ X 0 r c _ _ (fun n => ?_) fun n k => ?_)
    · exact extractStridedSlice_apply _ _ _ _ _ fun a => by
        match a with
        | 0 => rfl
        | 1 => exact (Nat.zero_add _).symm
    · exact extractStridedSlice_apply _ _ _ _ _ fun a => by
        match a with
        | 0 => rfl
        | 1 => exact (Nat.zero_add _).symm
        | 2 => exact (Nat.zero_add _).symm
  | 1 =>
    refine (if_neg (show ¬ (1 : ℕ) = 0 by decide)).trans (out_eq _ _ X 1 r c _ _ (fun n => ?_) fun n k => ?_)
    · exact extractStridedSlice_apply _ _ _ _ _ fun a => by
        match a with
        | 0 => rfl
        | 1 => exact (Nat.zero_add _).symm
    · exact extractStridedSlice_apply _ _ _ _ _ fun a => by
        match a with
        | 0 => rfl
        | 1 => exact (Nat.zero_add _).symm
        | 2 => exact (Nat.zero_add _).symm
end out

end Cert.KernelIdeal.Value

end
-- ==== Proof.KernelPre.lean ====
/- The data the kernel's program hands to its kernel. -/
module

public import proofs.«01_k».proof.Proof.Prefix
public import Idealize.ShloMosaic.Lib.StableHlo.RunRead

@[expose] public section

set_option maxRecDepth 16384

noncomputable section

namespace Cert.KernelIdeal.Value

open Cert.KernelIdeal Cert.KernelIdeal.Gen Cert.Pre Idealize.ShloMosaic Idealize.ShloMosaic.TcCoe Idealize.ShloMosaic.StableHlo

variable {F : FTy → Type} [FloatOps F]

/-- The array the kernel reads, from its columns. -/
def packOf (loc : FVec F S2x1000x2 .f32) (reg : FVec F S2x1000x4 .f32) (v lab : FVec F S2x1000 .f32) : FVec F S2x8x1000 .f32 :=
  transpose S2x8x1000 [0, 2, 1] (concatenate S2x1000x8 2 [⟨S2x1000x2, loc⟩, ⟨S2x1000x4, reg⟩, ⟨S2x1000x1, col1 v⟩, ⟨S2x1000x1, col1 lab⟩]
    concatenates_S2x1000x2_S2x1000x4_S2x1000x1_S2x1000x1_S2x1000x8_d2) transposes_S2x1000x8_S2x8x1000_0_2_1
/-- The same with padding boxes behind. -/
def padOf (x : FVec F S2x8x1000 .f32) (c : IVec S_ 32) : FVec F S2x8x1024 .f32 :=
  pad S2x8x1024 ![0, 0, 0] ![0, 0, 24] ![0, 0, 0] x (sitofp (F := F) .f32 c) pads_S2x8x1000_S2x8x1024_000_000_0240 h_S_

variable (V : Valuation τ sig (Elt F))

theorem s0_v7 : after hostOps0 V (Proc.devRef .tc main_v7) = probs (V (Proc.devRef .tc main_arg1)) := by after_results; rfl
theorem s0_v9 : after hostOps0 V (Proc.devRef .tc main_v9) = regs (V (Proc.devRef .tc main_arg2)) := by after_results; rfl
theorem s0_v11 : after hostOps0 V (Proc.devRef .tc main_v11) = above (probs (V (Proc.devRef .tc main_arg1))) := by after_results; rfl
theorem s0_cst : after hostOps0 V (Proc.devRef .tc main_cst_2) = (constant S_ .f32 0x00000000#32 : FVec F S_ .f32) := by after_results
theorem s0_arg0 : after hostOps0 V (Proc.devRef .tc main_arg0) = V (Proc.devRef .tc main_arg0) := by after_results
theorem s1_v12 : after hostOps0_1 V (Proc.devRef .tc main_v12)
    = maskBy (V (Proc.devRef .tc main_v11)) (V (Proc.devRef .tc main_v7)) (V (Proc.devRef .tc main_cst_2)) := by after_results; rfl
theorem s1_v9 : after hostOps0_1 V (Proc.devRef .tc main_v9) = V (Proc.devRef .tc main_v9) := by after_results
theorem s1_arg0 : after hostOps0_1 V (Proc.devRef .tc main_arg0) = V (Proc.devRef .tc main_arg0) := by after_results
theorem s2_values : after hostOps0_2 V (Proc.devRef .tc main_values) = valsOf (V (Proc.devRef .tc main_v12)) := by after_results; rfl
theorem s2_indices : after hostOps0_2 V (Proc.devRef .tc main_indices) = idxOf (F := F) (V (Proc.devRef .tc main_v12)) := by after_results; rfl
theorem s2_c : after hostOps0_2 V (Proc.devRef .tc main_c) = (constantI S_ 32 80#32 : IVec S_ 32) := by after_results
theorem s2_v9 : after hostOps0_2 V (Proc.devRef .tc main_v9) = V (Proc.devRef .tc main_v9) := by after_results
theorem s2_arg0 : after hostOps0_2 V (Proc.devRef .tc main_arg0) = V (Proc.devRef .tc main_arg0) := by after_results
theorem s3_v14 : after hostOps0_3 V (Proc.devRef .tc main_v14) = fdivOf (V (Proc.devRef .tc main_c)) (V (Proc.devRef .tc main_indices)) := by
  after_results; rfl
theorem s3_v9 : after hostOps0_3 V (Proc.devRef .tc main_v9) = V (Proc.devRef .tc main_v9) := by after_results
theorem s3_arg0 : after hostOps0_3 V (Proc.devRef .tc main_arg0) = V (Proc.devRef .tc main_arg0) := by after_results
theorem s3_values : after hostOps0_3 V (Proc.devRef .tc main_values) = V (Proc.devRef .tc main_values) := by after_results
theorem s3_indices : after hostOps0_3 V (Proc.devRef .tc main_indices) = V (Proc.devRef .tc main_indices) := by after_results
theorem s4_c : after hostOps0_4 V (Proc.devRef .tc main_c_3) = (constantI S_ 32 80#32 : IVec S_ 32) := by after_results
theorem s4_v9 : after hostOps0_4 V (Proc.devRef .tc main_v9) = V (Proc.devRef .tc main_v9) := by after_results
theorem s4_arg0 : after hostOps0_4 V (Proc.devRef .tc main_arg0) = V (Proc.devRef .tc main_arg0) := by after_results
theorem s4_values : after hostOps0_4 V (Proc.devRef .tc main_values) = V (Proc.devRef .tc main_values) := by after_results
theorem s4_indices : after hostOps0_4 V (Proc.devRef .tc main_indices) = V (Proc.devRef .tc main_indices) := by after_results
theorem s4_v14 : after hostOps0_4 V (Proc.devRef .tc main_v14) = V (Proc.devRef .tc main_v14) := by after_results
theorem s5_v15 : after hostOps0_5 V (Proc.devRef .tc main_v15) = fremOf (V (Proc.devRef .tc main_c_3)) (V (Proc.devRef .tc main_indices)) := by
  after_results; simp only [TRef.toBuf, TRef.ofBuf, cast_cast, cast_eq]; rfl
theorem s5_v9 : after hostOps0_5 V (Proc.devRef .tc main_v9) = V (Proc.devRef .tc main_v9) := by after_results
theorem s5_arg0 : after hostOps0_5 V (Proc.devRef .tc main_arg0) = V (Proc.devRef .tc main_arg0) := by after_results
theorem s5_values : after hostOps0_5 V (Proc.devRef .tc main_values) = V (Proc.devRef .tc main_values) := by after_results
theorem s5_v14 : after hostOps0_5 V (Proc.devRef .tc main_v14) = V (Proc.devRef .tc main_v14) := by after_results
theorem s6_v18 : after hostOps0_6 V (Proc.devRef .tc main_v18) = labOf (F := F) (V (Proc.devRef .tc main_v15)) := by after_results; rfl
theorem s6_v19 : after hostOps0_6 V (Proc.devRef .tc main_v19) = col1 (V (Proc.devRef .tc main_v14) : IVec S2x1000 32) := by after_results; rfl
theorem s6_v9 : after hostOps0_6 V (Proc.devRef .tc main_v9) = V (Proc.devRef .tc main_v9) := by after_results
theorem s6_arg0 : after hostOps0_6 V (Proc.devRef .tc main_arg0) = V (Proc.devRef .tc main_arg0) := by after_results
theorem s6_values : after hostOps0_6 V (Proc.devRef .tc main_values) = V (Proc.devRef .tc main_values) := by after_results
theorem s6_v14 : after hostOps0_6 V (Proc.devRef .tc main_v14) = V (Proc.devRef .tc main_v14) := by after_results
theorem s7_v20 : after hostOps0_7 V (Proc.devRef .tc main_v20) = takeOf (V (Proc.devRef .tc main_v9)) (V (Proc.devRef .tc main_v19)) := by
  after_results; rfl
theorem s7_arg0 : after hostOps0_7 V (Proc.devRef .tc main_arg0) = V (Proc.devRef .tc main_arg0) := by after_results
theorem s7_values : after hostOps0_7 V (Proc.devRef .tc main_values) = V (Proc.devRef .tc main_values) := by after_results
theorem s7_v14 : after hostOps0_7 V (Proc.devRef .tc main_v14) = V (Proc.devRef .tc main_v14) := by after_results
theorem s7_v18 : after hostOps0_7 V (Proc.devRef .tc main_v18) = V (Proc.devRef .tc main_v18) := by after_results
theorem s8_v31 : after hostOps0_8 V (Proc.devRef .tc main_v31)
    = packOf (locOf (V (Proc.devRef .tc main_arg0)) (V (Proc.devRef .tc main_v14))) (V (Proc.devRef .tc main_v20))
      (V (Proc.devRef .tc main_values)) (V (Proc.devRef .tc main_v18)) := by after_results; rfl
theorem s8_c : after hostOps0_8 V (Proc.devRef .tc main_c_7) = (constantI S_ 32 0#32 : IVec S_ 32) := by after_results
theorem s9_v32 : after hostOps0_9 V (Proc.devRef .tc main_v32) = padOf (F := F) (V (Proc.devRef .tc main_v31)) (V (Proc.devRef .tc main_c_7)) := by
  after_results; rfl

/-- What the kernel reads. -/
def packed (a0 : FVec F S4096x2 .f32) (a1 : FVec F S2x80x64x64 .f32) (a2 : FVec F S2x4x64x64 .f32) : FVec F S2x8x1024 .f32 :=
  padOf (packOf (pLoc a0 a1) (pReg a1 a2) (pVal a1) (pLab a1)) (constantI S_ 32 0#32)

theorem data_eq : after (List.flatten [hostOps0, hostOps0_1, hostOps0_2, hostOps0_3, hostOps0_4, hostOps0_5, hostOps0_6, hostOps0_7, hostOps0_8, hostOps0_9]) V
    (Proc.devRef .tc main_v32) = packed (V (Proc.devRef .tc main_arg0)) (V (Proc.devRef .tc main_arg1)) (V (Proc.devRef .tc main_arg2)) := by
  simp only [List.flatten_cons, List.flatten_nil, List.append_nil, after_append]
  rw [s9_v32, s8_v31, s8_c, s7_arg0, s7_v14, s7_v20, s7_values, s7_v18, s6_arg0, s6_v14, s6_v9, s6_v19, s6_values, s6_v18,
    s5_arg0, s5_v14, s5_v9, s5_values, s5_v15, s4_arg0, s4_v14, s4_v9, s4_values, s4_indices, s4_c,
    s3_arg0, s3_v14, s3_v9, s3_values, s3_indices, s2_arg0, s2_c, s2_indices, s2_v9, s2_values,
    s1_arg0, s1_v12, s1_v9, s0_arg0, s0_v11, s0_v7, s0_cst, s0_v9]
  rfl

end Cert.KernelIdeal.Value

end
-- ==== Proof.Packed.lean ====
/- The data the kernel reads, box by box, and the result in terms of the boxes alone. -/
module

public import proofs.«01_k».proof.Proof.KernelVal
public import proofs.«01_k».proof.Proof.KernelPre
public import Idealize.ShloMosaic.Lib.KernelVsHost

@[expose] public section

set_option maxRecDepth 16384

noncomputable section

namespace Cert.Model

theorem count_same {p q : ℕ → Prop} [DecidablePred p] [DecidablePred q] (n : ℕ) (h : ∀ k < n, p k ↔ q k) : Nat.count p n = Nat.count q n := by
  induction n with
  | zero => simp
  | succ n ih =>
    rw [Nat.count_succ, Nat.count_succ, ih fun k hk => h k (by omega)]
    by_cases hp : p n
    · rw [if_pos hp, if_pos ((h n (by omega)).mp hp)]
    · rw [if_neg hp, if_neg fun hq => hp ((h n (by omega)).mpr hq)]

theorem posOf_same {p q : ℕ → Prop} [DecidablePred p] [DecidablePred q] (N : ℕ) (h : ∀ k < N, p k ↔ q k) (n : ℕ) (hn : n < N) :
    posOf p N n = posOf q N n := by
  unfold posOf
  rw [count_same n fun k hk => h k (by omega), count_same N h, count_same (p := fun k => ¬ p k) (q := fun k => ¬ q k) n fun k hk => not_congr (h k (by omega))]
  by_cases hp : p n
  · rw [if_pos hp, if_pos ((h n hn).mp hp)]
  · rw [if_neg hp, if_neg fun hq => hp ((h n hn).mpr hq)]

theorem boxAt_same {p q : ℕ → Prop} [DecidablePred p] [DecidablePred q] (N : ℕ) (h : ∀ k < N, p k ↔ q k) (r : Fin N) : boxAt p N r = boxAt q N r := by
  rw [boxAt_eq_iff, posOf_same N h _ (Fin.isLt _), ← boxAt_symm, Equiv.symm_apply_apply]

/-- The result depends on the thousand boxes only. -/
theorem specOut_congr (h w : EReal) (R R' : ℕ → Raw) (hR : ∀ n < 1000, R n = R' n) (r : Fin 1000) (c : Fin 6) : specOut h w R r c = specOut h w R' r c := by
  have hg : ∀ i j, i < 1000 → j < 1000 → gTab h w R i j = gTab h w R' i j := fun i j hi hj => by unfold gTab; rw [hR i hi, hR j hj]
  have hk := keepB_congr hg
  have hv : ∀ n < 1000, kvB h w R n = kvB h w R' n := fun n hn => by unfold kvB; rw [hk n hn, hR n hn]
  unfold specOut
  rw [boxAt_same (q := fun n => kvB h w R' n = true) 1000 fun n hn => by rw [hv n hn]]
  generalize boxAt (fun n => kvB h w R' n = true) 1000 r = n
  unfold colS
  rw [hR n.val n.2, hk n.val n.2]
end Cert.Model

namespace Cert.KernelIdeal.Value

open Cert.KernelIdeal Cert.KernelIdeal.Gen Cert.Pre Cert.Model Idealize.ShloMosaic Idealize.ShloMosaic.ValueIdx

/-- A box number below a thousand. -/
def gi (n : ℕ) : Fin 1000 := ⟨n % 1000, Nat.mod_lt _ (by decide)⟩
theorem gi_val {n : ℕ} (h : n < 1000) : gi n = ⟨n, h⟩ := Fin.ext (Nat.mod_eq_of_lt h)

section
variable (a0 : FVec Ideal S4096x2 .f32) (a1 : FVec Ideal S2x80x64x64 .f32) (a2 : FVec Ideal S2x4x64x64 .f32)

/-- A box as the host hands it over. -/
def Rr (b : Fin 2) (n : ℕ) : Raw :=
  ![pLoc a0 a1 (ix3 b (gi n) 0), pLoc a0 a1 (ix3 b (gi n) 1), pReg a1 a2 (ix3 b (gi n) 0), pReg a1 a2 (ix3 b (gi n) 1), pReg a1 a2 (ix3 b (gi n) 2),
    pReg a1 a2 (ix3 b (gi n) 3), pVal a1 (ix2 b (gi n)), pLab a1 (ix2 b (gi n))]

theorem col1_apply {α : Type} (x : S2x1000.Idx → α) (b : Fin 2) (n : Fin 1000) (k : Fin 1) : col1 x (ix3 b n k) = x (ix2 b n) :=
  broadcastInDim_apply _ _ _ _ (ix2 b n) fun a => by
    match a with
    | 0 => rfl
    | 1 => rfl

theorem cat_apply (loc : FVec Ideal S2x1000x2 .f32) (reg : FVec Ideal S2x1000x4 .f32) (v lab : FVec Ideal S2x1000 .f32) (b : Fin 2) (n : Fin 1000) (k : Fin 8) :
    concatenate S2x1000x8 2 [⟨S2x1000x2, loc⟩, ⟨S2x1000x4, reg⟩, ⟨S2x1000x1, col1 v⟩, ⟨S2x1000x1, col1 lab⟩]
      concatenates_S2x1000x2_S2x1000x4_S2x1000x1_S2x1000x1_S2x1000x8_d2 (ix3 b n k)
    = (![loc (ix3 b n 0), loc (ix3 b n 1), reg (ix3 b n 0), reg (ix3 b n 1), reg (ix3 b n 2), reg (ix3 b n 3), v (ix2 b n), lab (ix2 b n)] : Raw) k := by
  have off : ∀ {M : ℕ} (j : Fin M) (a : Fin 3), a ≠ 2 → (ix3 b n j a).val = (ix3 b n k a).val := fun j a ha => by
    match a with
    | 0 => rfl
    | 1 => rfl
    | 2 => exact absurd rfl ha
  have p0 : ∀ j : Fin 2, j.val = k.val → concatenate S2x1000x8 2 [⟨S2x1000x2, loc⟩, ⟨S2x1000x4, reg⟩, ⟨S2x1000x1, col1 v⟩, ⟨S2x1000x1, col1 lab⟩]
      concatenates_S2x1000x2_S2x1000x4_S2x1000x1_S2x1000x1_S2x1000x8_d2 (ix3 b n k) = loc (ix3 b n j) := fun j hj =>
    concatenate_apply_piece _ _ _ (ix3 b n k) 0 (by simp) S2x1000x2 _ rfl rfl 0 rfl (ix3 b n j) (off j) (by show 0 + j.val = k.val; omega)
  have p1 : ∀ j : Fin 4, 2 + j.val = k.val → concatenate S2x1000x8 2 [⟨S2x1000x2, loc⟩, ⟨S2x1000x4, reg⟩, ⟨S2x1000x1, col1 v⟩, ⟨S2x1000x1, col1 lab⟩]
      concatenates_S2x1000x2_S2x1000x4_S2x1000x1_S2x1000x1_S2x1000x8_d2 (ix3 b n k) = reg (ix3 b n j) := fun j hj =>
    concatenate_apply_piece _ _ _ (ix3 b n k) 1 (by simp) S2x1000x4 _ rfl rfl 2 rfl (ix3 b n j) (off j) hj
  have p2 : 6 = k.val → concatenate S2x1000x8 2 [⟨S2x1000x2, loc⟩, ⟨S2x1000x4, reg⟩, ⟨S2x1000x1, col1 v⟩, ⟨S2x1000x1, col1 lab⟩]
      concatenates_S2x1000x2_S2x1000x4_S2x1000x1_S2x1000x1_S2x1000x8_d2 (ix3 b n k) = v (ix2 b n) := fun hj =>
    (concatenate_apply_piece _ _ _ (ix3 b n k) 2 (by simp) S2x1000x1 _ rfl rfl 6 rfl (ix3 b n (0 : Fin 1)) (off 0) hj).trans (col1_apply v b n 0)
  have p3 : 7 = k.val → concatenate S2x1000x8 2 [⟨S2x1000x2, loc⟩, ⟨S2x1000x4, reg⟩, ⟨S2x1000x1, col1 v⟩, ⟨S2x1000x1, col1 lab⟩]
      concatenates_S2x1000x2_S2x1000x4_S2x1000x1_S2x1000x1_S2x1000x8_d2 (ix3 b n k) = lab (ix2 b n) := fun hj =>
    (concatenate_apply_piece _ _ _ (ix3 b n k) 3 (by simp) S2x1000x1 _ rfl rfl 7 rfl (ix3 b n (0 : Fin 1)) (off 0) hj).trans (col1_apply lab b n 0)
  match k with
  | 0 => exact p0 0 rfl
  | 1 => exact p0 1 rfl
  | 2 => exact p1 0 rfl
  | 3 => exact p1 1 rfl
  | 4 => exact p1 2 rfl
  | 5 => exact p1 3 rfl
  | 6 => exact p2 rfl
  | 7 => exact p3 rfl

theorem packed_apply (b : Fin 2) (n : ℕ) (hn : n < 1000) : Rk (packed a0 a1 a2) b n = Rr a0 a1 a2 b n := by
  funext k
  show packed a0 a1 a2 (ix3 b k (fi n)) = _
  unfold packed padOf
  refine (pad_apply_of_inside _ _ _ _ _ _ _ _ (ix3 b k (gi n)) fun a => by
    match a with
    | 0 => show b.val = 0 + b.val * 1; omega
    | 1 => show k.val = 0 + k.val * 1; omega
    | 2 => show n % 1024 = 0 + (n % 1000) * 1; omega).trans ?_
  unfold packOf
  refine (transpose_apply _ _ _ _ (ix3 b (gi n) k) fun a => by
    match a with
    | 0 => rfl
    | 1 => rfl
    | 2 => rfl).trans ?_
  exact cat_apply _ _ _ _ b (gi n) k

/-- The kernel's result from the boxes. -/
theorem kernel_res (z : IVec S1x2 32) (b : Fin 2) (r : Fin 100) (c : Fin 6) : outAll (F := Ideal) z (packed a0 a1 a2) (ix3 b r c)
    = specOut (num (z (ix2 0 0))) (num (z (ix2 0 1))) (Rr a0 a1 a2 b) (r.castLE (by decide)) c :=
  (outAll_apply _ _ b r c).trans (specOut_congr _ _ _ _ (fun n hn => packed_apply a0 a1 a2 b n hn) _ _)
end

end Cert.KernelIdeal.Value

end
-- ==== Proof.Gather.lean ====
/- Rows of the reference's table read at given places. -/
module

public import proofs.«01_k».proof.Proof.Loop
public import proofs.«01_k».proof.Proof.PreFacts
public import proofs.«01_k».proof.Proof.Packed

@[expose] public section

set_option maxRecDepth 16384

noncomputable section

namespace Cert.Ref

open Cert.ReferenceIdeal Cert.ReferenceIdeal.Gen Idealize.ShloMosaic Idealize.ShloMosaic.ValueIdx

variable {α : Type}

/-- Dimension numbers that pick whole rows of a table of 1000, one table for each of two pictures. -/
abbrev rowDims (J : ℕ) (wf : GatherDims.WF S2x1000x6 ⟨3, ![2, J, 1]⟩ ⟨3, ![2, J, 6]⟩ [2] [1] [0] [1] [0] 2 ![1, 1, 6]) :
    GatherDims S2x1000x6 ⟨3, ![2, J, 1]⟩ ⟨3, ![2, J, 6]⟩ where
  offsetDims := [2]
  collapsedSliceDims := [1]
  operandBatchingDims := [0]
  startIndicesBatchingDims := [0]
  startIndexMap := [1]
  indexVectorDim := 2
  sliceSizes := ![1, 1, 6]
  wf := wf

theorem add3 {a b c a' b' c' s : ℕ} (ha : a = a') (hb : b = b') (hc : c = c') (h : a' + b' + c' = s) : a + b + c = s := by
  rw [ha, hb, hc, h]

/-- Such a pick, element by element. -/
theorem rows_apply {J : ℕ} (wf : GatherDims.WF S2x1000x6 ⟨3, ![2, J, 1]⟩ ⟨3, ![2, J, 6]⟩ [2] [1] [0] [1] [0] 2 ![1, 1, 6])
    (t : S2x1000x6.Idx → α) (i : IVec ⟨3, ![2, J, 1]⟩ 32) (b : Fin 2) (j : Fin J) (c : Fin 6) (n : Fin 1000)
    (hn : (i (ix3 b j 0)).toInt.toNat = n.val) :
    Host.gather (rowDims J wf) t i (ix3 b j c) = t (ix3 b n c) := by
  refine congrArg t ?_
  funext a
  refine Fin.ext ?_
  show (rowDims J wf).start (ix3 b j c) i a + (rowDims J wf).batchCoord (ix3 b j c) a + (rowDims J wf).offCoord (ix3 b j c) a = _
  match a with
  | 0 =>
    refine add3 (a' := 0) (b' := b.val) (c' := 0)
      (GatherDims.start_batching (rowDims J wf) _ _ 0 (List.mem_singleton.mpr rfl)) ?_
      (GatherDims.offCoord_eq_zero (rowDims J wf) _ 0 fun h => ((GatherDims.mem_sKept _ _).mp h).2 (List.mem_singleton.mpr rfl)) (by show 0 + b.val + 0 = b.val; omega)
    unfold GatherDims.batchCoord
    exact (dif_pos (List.mem_singleton.mpr rfl)).trans rfl
  | 1 =>
    refine add3 (a' := n.val) (b' := 0) (c' := 0) ?_
      (GatherDims.batchCoord_eq_zero (rowDims J wf) _ 1 fun h => absurd (List.mem_singleton.mp h) (by decide))
      (GatherDims.offCoord_eq_zero (rowDims J wf) _ 1 fun h => ((GatherDims.mem_sKept _ _).mp h).1 (List.mem_singleton.mpr rfl)) rfl
    unfold GatherDims.start
    refine (dif_pos (show (1 : Fin S2x1000x6.rank) ∈ (rowDims J wf).startIndexMap from List.mem_singleton.mpr rfl)).trans ?_
    have hsi : (rowDims J wf).siIdx (ix3 b j c) ⟨List.idxOf (1 : Fin S2x1000x6.rank) (rowDims J wf).startIndexMap,
        List.idxOf_lt_length_iff.2 (List.mem_singleton.mpr rfl)⟩ = ix3 b j 0 := by
      funext d; refine Fin.ext ?_
      match d with
      | 0 => rfl
      | 1 => rfl
      | 2 => rfl
    rw [hsi, hn]
    have : n.val < 1000 := n.isLt
    show min n.val 999 = n.val
    omega
  | 2 =>
    refine add3 (a' := 0) (b' := 0) (c' := c.val) ?_
      (GatherDims.batchCoord_eq_zero (rowDims J wf) _ 2 fun h => absurd (List.mem_singleton.mp h) (by decide))
      rfl (by show 0 + 0 + c.val = c.val; omega)
    unfold GatherDims.start
    exact dif_neg fun h => absurd (List.mem_singleton.mp h) (by decide)

/-- An index that counts from the end when negative; this one is not. -/
theorem wrap_same {s : Shape} (i : IVec s 32) (j : s.Idx) (z w : IVec s 32) (hz : z j = 0#32) (n : ℕ) (hn : n < 1000) (h : i j = BitVec.ofNat 32 n) :
    (select (cmpi .slt i z) (addi i w) i j).toInt.toNat = n := by
  have e : select (cmpi .slt i z) (addi i w) i j = i j := by
    show (if BitVec.ofBool (BitVec.slt (i j) (z j)) = 1#1 then _ else i j) = i j
    rw [hz, h, show BitVec.slt (BitVec.ofNat 32 n) 0#32 = false by
      rw [BitVec.slt]; simp only [BitVec.toInt_zero, decide_eq_false_iff_not]
      rw [BitVec.toInt_eq_toNat_of_lt (by rw [BitVec.toNat_ofNat]; omega)]; omega]
    rfl
  rw [e, h, BitVec.toInt_eq_toNat_of_lt (by rw [BitVec.toNat_ofNat]; omega), BitVec.toNat_ofNat]
  omega

theorem pickOf_apply (t : S2x1000x6.Idx → α) (i : IVec S2x1000 32) (b : Fin 2) (j : Fin 1000) (c : Fin 6) (n : Fin 1000)
    (h : i (ix2 b j) = BitVec.ofNat 32 n.val) : pickOf t (colIx i) (ix3 b j c) = t (ix3 b n c) :=
  rows_apply gather_S2x1000x6_S2x1000x1_S2x1000x6_2_1_0_0_1_2_116_wf t _ b j c n
    (wrap_same _ _ _ _ rfl n.val n.isLt ((broadcastInDim_apply _ _ _ _ (ix2 b j) fun a => by
      match a with
      | 0 => rfl
      | 1 => rfl).trans h))

theorem rowsOf_apply (t : S2x1000x6.Idx → α) (i : IVec S2x100 32) (b : Fin 2) (j : Fin 100) (c : Fin 6) (n : Fin 1000)
    (h : i (ix2 b j) = BitVec.ofNat 32 n.val) : rowsOf t (colIx' i) (ix3 b j c) = t (ix3 b n c) :=
  rows_apply gather_S2x1000x6_S2x100x1_S2x100x6_2_1_0_0_1_2_116_wf t _ b j c n
    (wrap_same _ _ _ _ rfl n.val n.isLt ((broadcastInDim_apply _ _ _ _ (ix2 b j) fun a => by
      match a with
      | 0 => rfl
      | 1 => rfl).trans h))

end Cert.Ref

end
-- ==== Proof.RefCols.lean ====
/- The reference's columns and tables, element by element. -/
module

public import proofs.«01_k».proof.Proof.Gather

@[expose] public section

set_option maxRecDepth 16384

noncomputable section

namespace Cert.Ref

open Cert.ReferenceIdeal Cert.ReferenceIdeal.Gen Cert.Model Idealize.ShloMosaic Idealize.ShloMosaic.ValueIdx

variable {α : Type}

/-- A column of a table. -/
theorem column_apply {C k : ℕ} (x : (⟨3, ![2, 1000, C]⟩ : Shape).Idx → α) (hs : (⟨3, ![2, 1000, C]⟩ : Shape).Slices ![0, 0, k] S2x1000x1) (b : Fin 2) (n : Fin 1000) (j : Fin C) (hj : j.val = k) :
    shapeCast S2x1000 (extractStridedSlice S2x1000x1 ![0, 0, k] x hs) shapeCasts_S2x1000x1_S2x1000 (ix2 b n) = x (ix3 b n j) := by
  refine (shapeCast_apply _ _ (ix2 b n) (ix3 b n (0 : Fin 1)) (by rw [Shape.rowMajor_val_two, Shape.rowMajor_val_three]; show (b.val * 1000 + n.val) * 1 + 0 = b.val * 1000 + n.val; omega)).trans ?_
  exact extractStridedSlice_apply _ _ _ (ix3 b n (0 : Fin 1)) (ix3 b n j) fun a => by
    match a with
    | 0 => show b.val = 0 + b.val; omega
    | 1 => show n.val = 0 + n.val; omega
    | 2 => show j.val = k + 0; omega

section
variable (t : S2x1000x6.Idx → α) (b : Fin 2) (n : Fin 1000)
theorem t0_apply : t0 t (ix2 b n) = t (ix3 b n 0) := column_apply t _ b n 0 rfl
theorem t1_apply : t1 t (ix2 b n) = t (ix3 b n 1) := column_apply t _ b n 1 rfl
theorem t2_apply : t2 t (ix2 b n) = t (ix3 b n 2) := column_apply t _ b n 2 rfl
theorem t3_apply : t3 t (ix2 b n) = t (ix3 b n 3) := column_apply t _ b n 3 rfl
theorem t4_apply : t4 t (ix2 b n) = t (ix3 b n 4) := column_apply t _ b n 4 rfl
theorem t5_apply : t5 t (ix2 b n) = t (ix3 b n 5) := column_apply t _ b n 5 rfl
end

theorem lift_apply (x : S2x1000.Idx → α) (b : Fin 2) (n : Fin 1000) (u : Fin 1) :
    broadcastInDim S2x1000x1 ![0, 1] bcast_S2x1000_S2x1000x1_0_1 x (ix3 b n u) = x (ix2 b n) :=
  broadcastInDim_apply _ _ _ _ (ix2 b n) fun a => by
    match a with
    | 0 => rfl
    | 1 => rfl

/-- A table of six columns. -/
theorem table_apply (x y z u v w : S2x1000.Idx → α) (b : Fin 2) (n : Fin 1000) (k : Fin 6) :
    table x y z u v w (ix3 b n k) = (![x (ix2 b n), y (ix2 b n), z (ix2 b n), u (ix2 b n), v (ix2 b n), w (ix2 b n)] : Fin 6 → α) k := by
  have off : ∀ a : Fin 3, a ≠ 2 → (ix3 b n (0 : Fin 1) a).val = (ix3 b n k a).val := fun a ha => by
    match a with
    | 0 => rfl
    | 1 => rfl
    | 2 => exact absurd rfl ha
  have p0 : 0 = k.val → table x y z u v w (ix3 b n k) = x (ix2 b n) := fun hj =>
    (concatenate_apply_piece _ _ _ (ix3 b n k) 0 (by simp) S2x1000x1 _ rfl rfl 0 rfl (ix3 b n (0 : Fin 1)) off hj).trans (lift_apply x b n 0)
  have p1 : 1 = k.val → table x y z u v w (ix3 b n k) = y (ix2 b n) := fun hj =>
    (concatenate_apply_piece _ _ _ (ix3 b n k) 1 (by simp) S2x1000x1 _ rfl rfl 1 rfl (ix3 b n (0 : Fin 1)) off hj).trans (lift_apply y b n 0)
  have p2 : 2 = k.val → table x y z u v w (ix3 b n k) = z (ix2 b n) := fun hj =>
    (concatenate_apply_piece _ _ _ (ix3 b n k) 2 (by simp) S2x1000x1 _ rfl rfl 2 rfl (ix3 b n (0 : Fin 1)) off hj).trans (lift_apply z b n 0)
  have p3 : 3 = k.val → table x y z u v w (ix3 b n k) = u (ix2 b n) := fun hj =>
    (concatenate_apply_piece _ _ _ (ix3 b n k) 3 (by simp) S2x1000x1 _ rfl rfl 3 rfl (ix3 b n (0 : Fin 1)) off hj).trans (lift_apply u b n 0)
  have p4 : 4 = k.val → table x y z u v w (ix3 b n k) = v (ix2 b n) := fun hj =>
    (concatenate_apply_piece _ _ _ (ix3 b n k) 4 (by simp) S2x1000x1 _ rfl rfl 4 rfl (ix3 b n (0 : Fin 1)) off hj).trans (lift_apply v b n 0)
  have p5 : 5 = k.val → table x y z u v w (ix3 b n k) = w (ix2 b n) := fun hj =>
    (concatenate_apply_piece _ _ _ (ix3 b n k) 5 (by simp) S2x1000x1 _ rfl rfl 5 rfl (ix3 b n (0 : Fin 1)) off hj).trans (lift_apply w b n 0)
  match k with
  | 0 => exact p0 rfl
  | 1 => exact p1 rfl
  | 2 => exact p2 rfl
  | 3 => exact p3 rfl
  | 4 => exact p4 rfl
  | 5 => exact p5 rfl

/-- A column over the pairs. -/
theorem byI_apply (x : FVec Ideal S2x1000 .f32) (b : Fin 2) (i j : Fin 1000) : byI x (ix3 b i j) = x (ix2 b i) :=
  (broadcastInDim_apply _ _ _ _ (ix3 b i (0 : Fin 1)) fun a => by
    match a with
    | 0 => rfl
    | 1 => rfl
    | 2 => rfl).trans (lift_apply x b i 0)

theorem byJ_apply (x : FVec Ideal S2x1000 .f32) (b : Fin 2) (i j : Fin 1000) : byJ x (ix3 b i j) = x (ix2 b j) :=
  (broadcastInDim_apply _ _ _ _ (ix3 b (0 : Fin 1) j) fun a => by
    match a with
    | 0 => rfl
    | 1 => rfl
    | 2 => rfl).trans (broadcastInDim_apply _ _ _ _ (ix2 b j) fun a => by
    match a with
    | 0 => rfl
    | 1 => rfl)

/-- The image's sides. -/
theorem hOf_eq (a : IVec S1x2 32) (i : S_.Idx) : hOf (F := Ideal) a i = num (a (ix2 0 0)) :=
  congrArg num ((shapeCast_apply _ _ i (ix2 (0 : Fin 1) (0 : Fin 1)) (by rw [Shape.rowMajor_val_two]; rfl)).trans
    (extractStridedSlice_apply _ _ _ _ (ix2 0 0) fun a => by
      match a with
      | 0 => rfl
      | 1 => rfl))
theorem wOf_eq (a : IVec S1x2 32) (i : S_.Idx) : wOf (F := Ideal) a i = num (a (ix2 0 1)) :=
  congrArg num ((shapeCast_apply _ _ i (ix2 (0 : Fin 1) (0 : Fin 1)) (by rw [Shape.rowMajor_val_two]; rfl)).trans
    (extractStridedSlice_apply _ _ _ _ (ix2 0 1) fun a => by
      match a with
      | 0 => rfl
      | 1 => rfl))

theorem clipOf_apply (w : FVec Ideal S_ .f32) (s : EReal) (hs : ∀ i, w i = s) (x : FVec Ideal S2x1000 .f32) (i : S2x1000.Idx) :
    clipOf z0 (less1 w) x i = clipS s (x i) := by
  show min (w _ - one) (max zero (x i)) = _
  rw [hs]; rfl

/-- The overlap of a pair. -/
theorem iouOf_apply (t : FVec Ideal S2x1000x6 .f32) (x1 y1 x2 y2 : Fin 1000 → EReal) (b : Fin 2) (i j : Fin 1000)
    (h0 : ∀ n, t (ix3 b n 0) + t (ix3 b n 5) * cls = x1 n) (h1 : ∀ n, t (ix3 b n 1) + t (ix3 b n 5) * cls = y1 n)
    (h2 : ∀ n, t (ix3 b n 2) + t (ix3 b n 5) * cls = x2 n) (h3 : ∀ n, t (ix3 b n 3) + t (ix3 b n 5) * cls = y2 n) :
    Ideal.cmp .ogt (iouOf t (ix3 b i j)) lim = gtP (x1 i) (y1 i) (x2 i) (y2 i) (areaS (x1 i) (y1 i) (x2 i) (y2 i))
      (x1 j) (y1 j) (x2 j) (y2 j) (areaS (x1 j) (y1 j) (x2 j) (y2 j)) := by
  have m0 : ∀ n, moved (t0 t) (t5 t) (ix2 b n) = x1 n := fun n => by
    rw [← h0, ← t0_apply t, ← t5_apply t]; rfl
  have m1 : ∀ n, moved (t1 t) (t5 t) (ix2 b n) = y1 n := fun n => by
    rw [← h1, ← t1_apply t, ← t5_apply t]; rfl
  have m2 : ∀ n, moved (t2 t) (t5 t) (ix2 b n) = x2 n := fun n => by
    rw [← h2, ← t2_apply t, ← t5_apply t]; rfl
  have m3 : ∀ n, moved (t3 t) (t5 t) (ix2 b n) = y2 n := fun n => by
    rw [← h3, ← t3_apply t, ← t5_apply t]; rfl
  unfold iouOf
  generalize moved (t0 t) (t5 t) = a0 at *
  generalize moved (t1 t) (t5 t) = a1 at *
  generalize moved (t2 t) (t5 t) = a2 at *
  generalize moved (t3 t) (t5 t) = a3 at *
  have ha : ∀ n, areaOf a0 a1 a2 a3 (ix2 b n) = areaS (x1 n) (y1 n) (x2 n) (y2 n) := fun n => by
    rw [← m0, ← m1, ← m2, ← m3]; rfl
  have hi : interOf a0 a1 a2 a3 (ix3 b i j) = overS (x1 i) (x2 i) (x1 j) (x2 j) * overS (y1 i) (y2 i) (y1 j) (y2 j) := by
    rw [← m0, ← m1, ← m2, ← m3, ← m0, ← m1, ← m2, ← m3, ← byI_apply a0 b i j, ← byI_apply a1 b i j, ← byI_apply a2 b i j, ← byI_apply a3 b i j,
      ← byJ_apply a0 b i j, ← byJ_apply a1 b i j, ← byJ_apply a2 b i j, ← byJ_apply a3 b i j]
    rfl
  unfold gtP ratioOf
  rw [← hi, ← ha, ← ha, ← byI_apply (areaOf a0 a1 a2 a3) b i j, ← byJ_apply (areaOf a0 a1 a2 a3) b i j]
  rfl

end Cert.Ref

end
-- ==== Proof.RefVal.lean ====
/- The reference's boxes are the ones the host hands to the kernel, in the same order. -/
module

public import proofs.«01_k».proof.Proof.RefCols

@[expose] public section

set_option maxRecDepth 16384

noncomputable section

namespace Cert.Model

open Idealize.ShloMosaic

theorem thr_pos : (0 : EReal) < thr := by
  unfold thr
  simp [Ideal.ofBits, Ideal.ieee, -EReal.coe_mul]

theorem ge_bit {x y : EReal} (h : y ≤ x) : Ideal.cmp .oge x y = 1#1 := by
  show BitVec.ofBool (decide (y ≤ x)) = 1#1
  rw [decide_eq_true h]; rfl

theorem gt_bit (x y : EReal) : (Ideal.cmp .ogt x y == 1#1) = decide (y < x) := ofBool_one _

theorem tf_nat (b : BitVec 1) : (((b.toNat : ℝ)) : EReal) = tf (b == 1#1) := tf_bit b

/-- Clipping keeps the order. -/
theorem clipS_mono (w : EReal) {x y : EReal} (h : x ≤ y) : clipS w x ≤ clipS w y := by
  unfold clipS
  exact min_le_min le_rfl (max_le_max le_rfl h)

/-- With a real side the clipped coordinate is real. -/
theorem clipS_real (r : ℝ) (x : EReal) : clipS (r : EReal) x ≠ ⊤ ∧ clipS (r : EReal) x ≠ ⊥ := by
  have e : (r : EReal) - one = ((r - 1 : ℝ) : EReal) := by rw [one_eq]; rfl
  unfold clipS
  rw [e, zero_eq]
  constructor
  · exact ne_of_lt ((min_le_left _ _).trans_lt (EReal.coe_lt_top _))
  · refine ne_of_gt (lt_min (EReal.bot_lt_coe _) ((EReal.bot_lt_coe 0).trans_le (le_max_left _ _)))

/-- A side of a box is at least one long. -/
theorem side_pos (r : ℝ) (x p q : EReal) (hp : 0 ≤ p) (hq : 0 ≤ q) :
    zero ≤ clipS (r : EReal) (x + q) - clipS (r : EReal) (x - p) + one := by
  have h : x - p ≤ x + q := by
    rw [sub_eq_add_neg]
    exact add_le_add_right ((EReal.neg_le_neg_iff.mpr hp).trans ((le_of_eq neg_zero).trans hq)) x
  have hm := clipS_mono (r : EReal) h
  obtain ⟨h1, h2⟩ := clipS_real r (x - p)
  rw [zero_eq, one_eq]
  exact add_nonneg ((EReal.sub_nonneg (Or.inr h1) (Or.inr h2)).mpr hm) zero_le_one

/-- With distances that are not negative a box counts by its score alone. -/
theorem validS_eq (h w : BitVec 32) (v : Raw) (h2 : 0 ≤ v 2) (h3 : 0 ≤ v 3) (h4 : 0 ≤ v 4) (h5 : 0 ≤ v 5) :
    validS (num h) (num w) v = Ideal.cmp .ogt (v 6) thr := by
  have e1 : Ideal.cmp .oge (X2 (num w) v - X1 (num w) v + one) zero = 1#1 := ge_bit (side_pos _ _ _ _ h2 h4)
  have e2 : Ideal.cmp .oge (Y2 (num h) v - Y1 (num h) v + one) zero = 1#1 := ge_bit (side_pos _ _ _ _ h3 h5)
  unfold validS
  rw [e1, e2]
  generalize Ideal.cmp .ogt (v 6) thr = b
  revert b; decide

/-- A score that is zero or above the limit is not changed by the mask of those above it. -/
theorem mask_same (p : EReal) (hp : p = 0 ∨ thr < p) : p * tf (decide (thr < p)) = p := by
  rcases hp with rfl | hp
  · exact zero_mul _
  · rw [decide_eq_true hp]; exact mul_one p

end Cert.Model

namespace Cert.ReferenceIdeal.Value

open Cert.ReferenceIdeal Cert.ReferenceIdeal.Gen Cert.Pre Cert.Ref Cert.Model Idealize.ShloMosaic Idealize.ShloMosaic.ValueIdx
open Cert.KernelIdeal.Value (gi gi_val Rr)

section
variable (a0 : FVec Ideal S4096x2 .f32) (a1 : FVec Ideal S2x80x64x64 .f32) (a2 : FVec Ideal S2x4x64x64 .f32) (a4 : IVec S1x2 32)

/-- A picture's boxes. -/
def box (b : Fin 2) (n : Fin 1000) : Raw :=
  ![pLoc a0 a1 (ix3 b n 0), pLoc a0 a1 (ix3 b n 1), pReg a1 a2 (ix3 b n 0), pReg a1 a2 (ix3 b n 1), pReg a1 a2 (ix3 b n 2), pReg a1 a2 (ix3 b n 3),
    pVal a1 (ix2 b n), pLab a1 (ix2 b n)]

theorem box_eq (b : Fin 2) (n : Fin 1000) : Rr a0 a1 a2 b n.val = box a0 a1 a2 b n := by
  unfold Rr
  rw [gi_val n.isLt]
  rfl

/-- The image's sides as numbers. -/
def hh : EReal := num (a4 (ix2 0 0))
def ww : EReal := num (a4 (ix2 0 1))

variable (b : Fin 2) (n : Fin 1000)

theorem rX1_apply : rX1 a0 a1 a2 a4 (ix2 b n) = X1 (ww a4) (box a0 a1 a2 b n) := by
  unfold rX1
  rw [clipOf_apply _ _ (wOf_eq a4)]
  refine congrArg (clipS (ww a4)) (congrArg₂ (fun x y : EReal => x - y) ?_ ?_)
  · exact column_apply _ _ b n 0 rfl
  · exact column_apply _ _ b n 0 rfl
theorem rY1_apply : rY1 a0 a1 a2 a4 (ix2 b n) = Y1 (hh a4) (box a0 a1 a2 b n) := by
  unfold rY1
  rw [clipOf_apply _ _ (hOf_eq a4)]
  refine congrArg (clipS (hh a4)) (congrArg₂ (fun x y : EReal => x - y) ?_ ?_)
  · exact column_apply _ _ b n 1 rfl
  · exact column_apply _ _ b n 1 rfl
theorem rX2_apply : rX2 a0 a1 a2 a4 (ix2 b n) = X2 (ww a4) (box a0 a1 a2 b n) := by
  unfold rX2
  rw [clipOf_apply _ _ (wOf_eq a4)]
  refine congrArg (clipS (ww a4)) (congrArg₂ (fun x y : EReal => x + y) ?_ ?_)
  · exact column_apply _ _ b n 0 rfl
  · exact column_apply _ _ b n 2 rfl
theorem rY2_apply : rY2 a0 a1 a2 a4 (ix2 b n) = Y2 (hh a4) (box a0 a1 a2 b n) := by
  unfold rY2
  rw [clipOf_apply _ _ (hOf_eq a4)]
  refine congrArg (clipS (hh a4)) (congrArg₂ (fun x y : EReal => x + y) ?_ ?_)
  · exact column_apply _ _ b n 1 rfl
  · exact column_apply _ _ b n 3 rfl

variable (hpos : ∀ i, (0 : EReal) ≤ a2 i)
include hpos

/-- The mask is the score's. -/
theorem valid_box : validS (hh a4) (ww a4) (box a0 a1 a2 b n) = Ideal.cmp .ogt (pVal a1 (ix2 b n)) thr :=
  validS_eq _ _ _ (pReg_pos a1 a2 hpos _) (pReg_pos a1 a2 hpos _) (pReg_pos a1 a2 hpos _) (pReg_pos a1 a2 hpos _)

/-- The reference's scores are the host's. -/
theorem rScore_apply : rScore a0 a1 a2 a4 (ix2 b n) = pVal a1 (ix2 b n) := by
  have e : rScore a0 a1 a2 a4 (ix2 b n) = pVal a1 (ix2 b n) * (((okOf (rX1 a0 a1 a2 a4) (rY1 a0 a1 a2 a4) (rX2 a0 a1 a2 a4) (rY2 a0 a1 a2 a4) (pVal a1) (ix2 b n)).toNat : ℝ) : EReal) := rfl
  have ho : okOf (rX1 a0 a1 a2 a4) (rY1 a0 a1 a2 a4) (rX2 a0 a1 a2 a4) (rY2 a0 a1 a2 a4) (pVal a1) (ix2 b n) = Ideal.cmp .ogt (pVal a1 (ix2 b n)) thr := by
    have : okOf (rX1 a0 a1 a2 a4) (rY1 a0 a1 a2 a4) (rX2 a0 a1 a2 a4) (rY2 a0 a1 a2 a4) (pVal a1) (ix2 b n) = validS (hh a4) (ww a4) (box a0 a1 a2 b n) := by
      unfold validS
      rw [← rX1_apply, ← rX2_apply, ← rY1_apply, ← rY2_apply]
      exact (BitVec.and_assoc _ _ _).symm
    rw [this, valid_box a0 a1 a2 a4 b n hpos]
  rw [e, ho, tf_nat, gt_bit]
  exact mask_same _ (pVal_cases a1 b n)
end

/-- What the comparison of two entries says. -/
theorem comparator_eq (l r : EReal × BitVec 32) : (comparator_f32_i32_d1 (F := Ideal) l r == 1#1) = decide (l.1 < r.1) := by
  have e : ∀ x : EReal, Scalar.select (Ideal.cmp .une x x) (Ideal.ofBits .f32 0x7FC00000#32) (Scalar.select (Ideal.cmp .oeq x zero) zero x) = x := fun x => by
    have h1 : Ideal.cmp .une x x = 0#1 := by
      show BitVec.ofBool (decide (x ≠ x)) = 0#1
      rw [decide_eq_false (fun h => h rfl)]; rfl
    rw [h1]
    show (if BitVec.ofBool (decide (x = zero)) = 1#1 then zero else x) = x
    by_cases hx : x = zero
    · rw [hx, ite_self]
    · rw [decide_eq_false hx]; rfl
  have e2 : comparator_f32_i32_d1 (F := Ideal) l r = Ideal.cmp .olt
      (Scalar.select (Ideal.cmp .une l.1 l.1) (Ideal.ofBits .f32 0x7FC00000#32) (Scalar.select (Ideal.cmp .oeq l.1 zero) zero l.1))
      (Scalar.select (Ideal.cmp .une r.1 r.1) (Ideal.ofBits .f32 0x7FC00000#32) (Scalar.select (Ideal.cmp .oeq r.1 zero) zero r.1)) := rfl
  rw [e2, e, e]
  exact ofBool_one _

/-- The second array of a sort of two, along the rows. -/
theorem sort2_snd {B N : ℕ} {α β : Type} (f : α × β → α × β → BitVec 1) (x : (⟨2, ![B, N]⟩ : Shape).Idx → α) (y : (⟨2, ![B, N]⟩ : Shape).Idx → β) (b : Fin B) (n : Fin N)
    (R : Fin N → Fin N → Bool) (hR : ∀ k k', (f (x (ix2 b k), y (ix2 b k)) (x (ix2 b k'), y (ix2 b k')) == 1#1) = R k k') :
    (Host.sort2 ⟨2, ![B, N]⟩ 1 f x y).2 (ix2 b n) = y (ix2 b (sortedFrom R n)) := by
  unfold Host.sort2
  rw [dif_pos (show 1 < 2 by decide)]
  have e : (fun k k' : Fin N => f (x ((ix2 b n).along 1 k), y ((ix2 b n).along 1 k)) (x ((ix2 b n).along 1 k'), y ((ix2 b n).along 1 k')) == 1#1) = R := by
    funext k k'
    rw [along_ix2, along_ix2]
    exact hR k k'
  exact (congrArg (fun g => y ((ix2 b n).along 1 (sortedFrom g n))) e).trans (congrArg y (along_ix2 _ _ _))

/-- Scores that fall already are sorted. -/
theorem orderOf_apply (s : FVec Ideal S2x1000 .f32) (b : Fin 2) (hs : ∀ i j : Fin 1000, i < j → s (ix2 b j) ≤ s (ix2 b i)) (n : Fin 1000) :
    Cert.Ref.orderOf s (ix2 b n) = BitVec.ofNat 32 n.val := by
  refine (sort2_snd _ _ _ b n (fun k k' => decide (-(s (ix2 b k)) < -(s (ix2 b k')))) fun k k' => comparator_eq _ _).trans ?_
  rw [sortedFrom_eq_self]
  · rfl
  intro i j hij
  refine decide_eq_false fun h => ?_
  exact absurd (EReal.neg_lt_neg_iff.mp h) (not_lt.mpr (hs i j hij))

section
variable (a0 : FVec Ideal S4096x2 .f32) (a1 : FVec Ideal S2x80x64x64 .f32) (a2 : FVec Ideal S2x4x64x64 .f32) (a4 : IVec S1x2 32)
variable (hpos : ∀ i, (0 : EReal) ≤ a2 i)
include hpos

/-- The sorted table, row by row. -/
theorem rSorted_apply (b : Fin 2) (n : Fin 1000) (k : Fin 6) : rSorted a0 a1 a2 a4 (ix3 b n k)
    = (![X1 (ww a4) (box a0 a1 a2 b n), Y1 (hh a4) (box a0 a1 a2 b n), X2 (ww a4) (box a0 a1 a2 b n), Y2 (hh a4) (box a0 a1 a2 b n),
      pVal a1 (ix2 b n), pLab a1 (ix2 b n)] : Fin 6 → EReal) k := by
  unfold rSorted
  rw [pickOf_apply _ _ b n k n (Cert.ReferenceIdeal.Value.orderOf_apply _ b (fun i j hij => by
    rw [rScore_apply a0 a1 a2 a4 b i hpos, rScore_apply a0 a1 a2 a4 b j hpos]
    exact pVal_falls a1 b i j hij) n)]
  unfold rTab
  rw [table_apply, rX1_apply, rX2_apply, rY1_apply, rY2_apply, rScore_apply a0 a1 a2 a4 b n hpos]

/-- The table of overlaps is the kernel's. -/
theorem gT_eq (b : Fin 2) (i j : ℕ) (hi : i < 1000) (hj : j < 1000) :
    gT (iouOf (rSorted a0 a1 a2 a4)) b i j = gTab (hh a4) (ww a4) (Rr a0 a1 a2 b) i j := by
  have hi' := box_eq a0 a1 a2 b ⟨i, hi⟩
  have hj' := box_eq a0 a1 a2 b ⟨j, hj⟩
  unfold gT gTab
  rw [dif_pos ⟨hi, hj⟩, hi', hj', iouOf_apply (rSorted a0 a1 a2 a4)
    (fun n => offS (box a0 a1 a2 b n) (X1 (ww a4) (box a0 a1 a2 b n))) (fun n => offS (box a0 a1 a2 b n) (Y1 (hh a4) (box a0 a1 a2 b n)))
    (fun n => offS (box a0 a1 a2 b n) (X2 (ww a4) (box a0 a1 a2 b n))) (fun n => offS (box a0 a1 a2 b n) (Y2 (hh a4) (box a0 a1 a2 b n))) b ⟨i, hi⟩ ⟨j, hj⟩
    (fun n => by rw [rSorted_apply _ _ _ _ hpos, rSorted_apply _ _ _ _ hpos]; rfl) (fun n => by rw [rSorted_apply _ _ _ _ hpos, rSorted_apply _ _ _ _ hpos]; rfl)
    (fun n => by rw [rSorted_apply _ _ _ _ hpos, rSorted_apply _ _ _ _ hpos]; rfl) (fun n => by rw [rSorted_apply _ _ _ _ hpos, rSorted_apply _ _ _ _ hpos]; rfl)]
  rfl
end

end Cert.ReferenceIdeal.Value

end
-- ==== Proof.Select.lean ====
/- The reference's hundred best boxes are the kernel's first hundred places. -/
module

public import proofs.«01_k».proof.Proof.RefVal

@[expose] public section

set_option maxRecDepth 16384

noncomputable section

namespace Cert.Model

open Idealize.ShloMosaic

/-- Falling values, some of them put to zero: the greatest are the ones that stay, in order, and the others follow in order. -/
theorem best_places {N : ℕ} (p : Fin N → EReal) (q : ℕ → Prop) [DecidablePred q] (key : Fin N → EReal)
    (hfall : ∀ i j, i < j → p j ≤ p i) (h1 : ∀ n : Fin N, q n.val → key n = p n ∧ 0 < p n) (h0 : ∀ n : Fin N, ¬ q n.val → key n = 0) (i : Fin N) :
    sortedFrom (gtR key) i = boxAt q N i := by
  refine sortedFrom_eq_of_places (gtR key) (boxAt q N) (fun a b hab => ?_) (fun a b hab hn _ => ?_) i
  · rw [gtR_iff] at hab
    have hlt := of_decide_eq_true hab
    show posOf q N a.val < posOf q N b.val
    by_cases hb : q b.val
    · obtain ⟨eb, pb⟩ := h1 b hb
      by_cases ha : q a.val
      · rw [(h1 a ha).1, eb] at hlt
        refine posOf_mono q (Fin.lt_def.mp ?_) ⟨fun _ => hb, fun _ => ha⟩
        rcases lt_trichotomy a b with h | h | h
        · exact h
        · exact absurd hlt (by rw [h]; exact lt_irrefl _)
        · exact absurd hlt (not_lt.mpr (hfall b a h))
      · rw [h0 a ha, eb] at hlt
        exact absurd hlt pb.asymm
    · by_cases ha : q a.val
      · exact posOf_cross q a.isLt ha hb
      · rw [h0 a ha, h0 b hb] at hlt
        exact absurd hlt (lt_irrefl _)
  · rw [gtR_iff] at hn
    have hle := not_lt.mp (of_decide_eq_false hn)
    show posOf q N a.val < posOf q N b.val
    by_cases hb : q b.val
    · by_cases ha : q a.val
      · exact posOf_mono q (Fin.lt_def.mp hab) ⟨fun _ => hb, fun _ => ha⟩
      · rw [(h1 b hb).1, h0 a ha] at hle
        exact absurd (h1 b hb).2 (not_lt.mpr hle)
    · by_cases ha : q a.val
      · exact posOf_cross q a.isLt ha hb
      · exact posOf_mono q (Fin.lt_def.mp hab) ⟨fun h => absurd h ha, fun h => absurd h hb⟩

end Cert.Model

namespace Cert.ReferenceIdeal.Value

open Cert.ReferenceIdeal Cert.ReferenceIdeal.Gen Cert.Pre Cert.Ref Cert.Model Idealize.ShloMosaic Idealize.ShloMosaic.ValueIdx
open Cert.KernelIdeal.Value (gi gi_val Rr)

section
variable (a0 : FVec Ideal S4096x2 .f32) (a1 : FVec Ideal S2x80x64x64 .f32) (a2 : FVec Ideal S2x4x64x64 .f32) (a4 : IVec S1x2 32)
variable (hpos : ∀ i, (0 : EReal) ≤ a2 i)
include hpos

/-- The reference's result from the boxes. -/
theorem reference_res (b : Fin 2) (r : Fin 100) (c : Fin 6) :
    resOf (rSorted a0 a1 a2 a4) (hold fun b => keepB (gT (iouOf (rSorted a0 a1 a2 a4)) b)) (ix3 b r c)
    = specOut (hh a4) (ww a4) (Rr a0 a1 a2 b) (r.castLE (by decide)) c := by
  have hK : ∀ n : Fin 1000, keepB (gT (iouOf (rSorted a0 a1 a2 a4)) b) n.val = keepB (gTab (hh a4) (ww a4) (Rr a0 a1 a2 b)) n.val := fun n =>
    keepB_congr (N := 1000) (fun i j hi hj => gT_eq a0 a1 a2 a4 hpos b i j hi hj) n.val n.isLt
  have hkey : ∀ n : Fin 1000, lastOf (t4 (rSorted a0 a1 a2 a4)) (hold fun b => keepB (gT (iouOf (rSorted a0 a1 a2 a4)) b)) (ix2 b n)
      = pVal a1 (ix2 b n) * tf (keepB (gTab (hh a4) (ww a4) (Rr a0 a1 a2 b)) n.val) := fun n => by
    have e : lastOf (t4 (rSorted a0 a1 a2 a4)) (hold fun b => keepB (gT (iouOf (rSorted a0 a1 a2 a4)) b)) (ix2 b n)
      = t4 (rSorted a0 a1 a2 a4) (ix2 b n) * (((BitVec.ofBool (keepB (gT (iouOf (rSorted a0 a1 a2 a4)) b) n.val)).toNat : ℝ) : EReal) := rfl
    rw [e, tf_nat, ofBool_one, hK, t4_apply, rSorted_apply a0 a1 a2 a4 hpos]
    rfl
  have hkv : ∀ n : Fin 1000, kvB (hh a4) (ww a4) (Rr a0 a1 a2 b) n.val
      = (keepB (gTab (hh a4) (ww a4) (Rr a0 a1 a2 b)) n.val && decide (thr < pVal a1 (ix2 b n))) := fun n => by
    unfold kvB
    rw [box_eq, valid_box a0 a1 a2 a4 b n hpos, gt_bit]
  have hbest : bestOf (lastOf (t4 (rSorted a0 a1 a2 a4)) (hold fun b => keepB (gT (iouOf (rSorted a0 a1 a2 a4)) b))) (ix2 b r)
      = BitVec.ofNat 32 (boxAt (fun n => kvB (hh a4) (ww a4) (Rr a0 a1 a2 b) n = true) 1000 (r.castLE (by decide))).val := by
    refine (topK_snd _ _ (by decide) b r).trans ?_
    rw [best_places (fun n => pVal a1 (ix2 b n)) (fun n => kvB (hh a4) (ww a4) (Rr a0 a1 a2 b) n = true)]
    · exact fun i j hij => pVal_falls a1 b i j hij
    · intro n hn
      rw [hkv, Bool.and_eq_true, decide_eq_true_iff] at hn
      refine ⟨?_, thr_pos.trans hn.2⟩
      rw [hkey, hn.1]
      exact mul_one _
    · intro n hn
      rw [hkv, Bool.and_eq_true, decide_eq_true_iff] at hn
      rw [hkey]
      rcases pVal_cases a1 b n with h | h
      · rw [h]; exact zero_mul _
      · rw [Bool.eq_false_of_not_eq_true fun hk => hn ⟨hk, h⟩]
        exact mul_zero _
  unfold resOf specOut
  rw [rowsOf_apply _ _ b r c _ hbest, table_apply]
  generalize boxAt (fun n => kvB (hh a4) (ww a4) (Rr a0 a1 a2 b) n = true) 1000 (r.castLE (by decide)) = n
  rw [hkey, t0_apply, t1_apply, t2_apply, t3_apply, t5_apply]
  simp only [rSorted_apply a0 a1 a2 a4 hpos]
  unfold colS
  rw [box_eq, valid_box a0 a1 a2 a4 b n hpos, gt_bit]
  have e6 : box a0 a1 a2 b n 6 = pVal a1 (ix2 b n) := rfl
  rw [e6, mask_same _ (pVal_cases a1 b n)]
  rfl
end

end Cert.ReferenceIdeal.Value

end
-- ==== Proof.RefRun.lean ====
/- How the reference's program ends: its arguments as they were, its result from its boxes. -/
module

public import proofs.«01_k».proof.Proof.Select
public import Idealize.ShloMosaic.Lib.Quiescent

@[expose] public section

set_option maxRecDepth 16384

noncomputable section

namespace Cert.ReferenceIdeal.Value

open Cert.ReferenceIdeal Cert.ReferenceIdeal.Gen Cert.Ref Cert.Model Idealize.ShloMosaic Idealize.ShloMosaic.TcCoe Idealize.ShloMosaic.StableHlo Idealize.SL.Sem

/-! What the last two stretches write. -/
def post1_W : List (Ref sig .tc) := [main_v157, main_v158, main_values_31, main_indices_32, main_v159, main_v160, main_v161, main_v162, main_v163, main_v164, main_v165, main_v166]
theorem post1_writes : (hostOps0_21 : List (HloOp τ sig (Elt Ideal))).Forall fun op => op.writes ⊆ (post1_W.map (Proc.devRef (τ := τ) .tc)).toFinset :=
  forall_writes_sub_of_map rfl
def post2_W : List (Ref sig .tc) := [main_call12_c, main_call12_v0, main_call12_v1, main_call12_c_0, main_call12_v2, main_call12_v3, main_call12_v4, main_v167]
theorem post2_writes : (hostOps0_22 : List (HloOp τ sig (Elt Ideal))).Forall fun op => op.writes ⊆ (post2_W.map (Proc.devRef (τ := τ) .tc)).toFinset :=
  forall_writes_sub_of_map rfl

/-- A buffer that no stretch writes. -/
def Untouched (r : Ref sig .tc) : Prop :=
  r ∉ hostOps0_W ∧ r ∉ hostOps0_1_W ∧ r ∉ hostOps0_2_W ∧ r ∉ hostOps0_3_W ∧ r ∉ hostOps0_4_W ∧ r ∉ hostOps0_5_W ∧ r ∉ hostOps0_6_W ∧
  r ∉ hostOps0_7_W ∧ r ∉ hostOps0_8_W ∧ r ∉ hostOps0_9_W ∧ r ∉ hostOps0_10_W ∧ r ∉ hostOps0_11_W ∧ r ∉ hostOps0_12_W ∧ r ∉ hostOps0_13_W ∧
  r ∉ hostOps0_14_W ∧ r ∉ hostOps0_15_W ∧ r ∉ hostOps0_16_W ∧ r ∉ hostOps0_17_W ∧ r ∉ hostOps0_18_W ∧ r ∉ hostOps0_19_W ∧ r ∉ hostOps0_20_W ∧
  r ∉ post1_W ∧ r ∉ post2_W ∧ r ∉ while0Ops0_W ∧ r ∉ while0Ops0_1_W ∧ r ∉ while0Ops0_2_W ∧ r ∉ while0Ops0_3_W ∧ r ∉ condOps_W

variable (m : (ℓ : Loc nD τ sig) → Buf (Elt Ideal) ℓ) (c : Dev nD) (ρ : Dev nD → PrngReg)

theorem final_keeps (r : Ref sig .tc) (h : Untouched r) : finalContents condOps preI bodyI postI 1000 m c (Proc.devRef .tc r) = m (c.tc.loc r) := by
  obtain ⟨h0, h1, h2, h3, h4, h5, h6, h7, h8, h9, h10, h11, h12, h13, h14, h15, h16, h17, h18, h19, h20, h21, h22, w0, w1, w2, w3, hc⟩ := h
  show afterL postI (after condOps (atK m 1000 c)) (Proc.devRef .tc r) = _
  simp only [afterL_cons, afterL_nil]
  rw [after_of_writes_sub hostOps0_22 _ post2_writes h22, after_of_writes_sub hostOps0_21 _ post1_writes h21, after_of_writes_sub condOps _ condOps_writes hc,
    trip_keeps m c r hc w0 w1 w2 w3 1000]
  unfold entryContents
  simp only [afterL_cons, afterL_nil]
  rw [
    k20 _ r h20, k19 _ r h19, k18 _ r h18, k17 _ r h17, k16 _ r h16, k15 _ r h15, k14 _ r h14, k13 _ r h13, k12 _ r h12, k11 _ r h11, k10 _ r h10,
    k9 _ r h9, k8 _ r h8, k7 _ r h7, k6 _ r h6, k5 _ r h5, k4 _ r h4, k3 _ r h3, k2 _ r h2, k1 _ r h1, k0 _ r h0]

/-- The run: the result, the arguments, and the counters. -/
theorem run_ref : θ_run (defs (F := Ideal)) (onTc (τ := τ) (main (F := Ideal))) ⟨m, fun _ => 0, ρ⟩ (fun r => (∀ c : Dev nD,
      r.2.mem ((c.tc : Thread nD τ).loc main_v167) = resOf (tabM m c) (hold fun b => keepB (gT (iouOf (tabM m c)) b))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h c main_v167 rfl).trans ((final_v167 m c).trans (congrArg (resOf (tabM m c)) (loop_end m c))),
      (h c main_arg0 rfl).trans (final_keeps m c main_arg0 (by unfold Untouched; and_intros <;> decide)),
      (h c main_arg1 rfl).trans (final_keeps m c main_arg1 (by unfold Untouched; and_intros <;> decide)),
      (h c main_arg2 rfl).trans (final_keeps m c main_arg2 (by unfold Untouched; and_intros <;> decide)),
      (h c main_arg3 rfl).trans (final_keeps m c main_arg3 (by unfold Untouched; and_intros <;> decide)),
      (h c main_arg4 rfl).trans (final_keeps m c main_arg4 (by unfold Untouched; and_intros <;> decide))⟩,
    sem_eq_zero_of_no_sems rfl r.2⟩) (run_fold m ρ)

end Cert.ReferenceIdeal.Value

end
-- ==== Proof.Equal.lean ====
/- The two programs' results are equal. -/
module

public import proofs.«01_k».proof.Defs
public import proofs.«01_k».proof.Proof.RefRun
public import proofs.«01_k».proof.Proof.KernelRun

@[expose] public section

set_option maxRecDepth 16384

noncomputable section

namespace Cert.Pre_pre

open Idealize.ShloMosaic

/-- The precondition's side conditions. -/
theorem facts : Facts where
  bcast_S_S2x4x64x64 := by decide
  reducesTo_S2x4x64x64_S_d0_1_2_3 := by decide
  h_S_ := by decide

instance : Subsingleton S_.Idx := ⟨fun _ _ => funext fun a => a.elim0⟩

/-- What the precondition says. -/
theorem all_pos [hc : Facts] (a0 : FVec Ideal S4096x2 .f32) (a1 : FVec Ideal S2x80x64x64 .f32) (a2 : FVec Ideal S2x4x64x64 .f32) (a3 : FVec Ideal S2x1x64x64 .f32) (a4 : IVec S1x2 32)
    (h : fn (F := Ideal) a0 a1 a2 a3 a4 = fun _ => 1#1) (i : S2x4x64x64.Idx) : (0 : EReal) ≤ a2 i := by
  unfold fn at h
  have e := Host.reduce_andi_all _ _ _ _ (fun a => a.elim0) (congrFun h fun a => a.elim0) i
  have e' : BitVec.ofBool (decide (Cert.Model.zero ≤ a2 i)) = 1#1 := e
  have := (Cert.Model.ofBool_one (decide (Cert.Model.zero ≤ a2 i))).symm
  rw [e', Cert.Model.zero_eq] at this
  exact of_decide_eq_true this

end Cert.Pre_pre

namespace Cert.Model

open Idealize.ShloMosaic Idealize.ShloMosaic.ValueIdx

/-- Both results from the same arguments. -/
theorem results_eq (a0 : FVec Ideal Cert.KernelIdeal.S4096x2 .f32) (a1 : FVec Ideal Cert.KernelIdeal.S2x80x64x64 .f32)
    (a2 : FVec Ideal Cert.KernelIdeal.S2x4x64x64 .f32) (a4 : IVec Cert.KernelIdeal.S1x2 32) (hpos : ∀ i, (0 : EReal) ≤ a2 i) :
    Cert.ReferenceIdeal.Value.resOf (Cert.ReferenceIdeal.Value.rSorted a0 a1 a2 a4)
        (Cert.ReferenceIdeal.Value.hold fun b => keepB (Cert.ReferenceIdeal.Value.gT (Cert.Ref.iouOf (Cert.ReferenceIdeal.Value.rSorted a0 a1 a2 a4)) b))
      = Cert.KernelIdeal.Value.outAll (F := Ideal) a4 (Cert.KernelIdeal.Value.packed a0 a1 a2) := by
  funext i
  have e : ∃ (b : Fin 2) (r : Fin 100) (c : Fin 6), i = ix3 b r c := ⟨i 0, i 1, i 2, eq_ix3 i⟩
  obtain ⟨b, r, c, rfl⟩ := e
  exact (Cert.ReferenceIdeal.Value.reference_res a0 a1 a2 a4 hpos b r c).trans (Cert.KernelIdeal.Value.kernel_res a0 a1 a2 a4 b r c).symm

end Cert.Model

namespace Cert.Proof

open Idealize.ShloMosaic Idealize.ShloMosaic.TcCoe Idealize.SL.Sem

/-- The reference's frame. -/
theorem frame_ref : Cert.quiescent_ReferenceIdeal (hReferenceIdeal := Cert.ReferenceIdeal.Gen.facts) := fun m ρ _ =>
  (θ_run _ _ _).mono (fun _ h => ⟨fun c => (h.1 c).2, h.2⟩) (Cert.ReferenceIdeal.Value.run_ref m ρ)

/-- The kernel's result is the reference's. -/
theorem algebraic : Cert.algebraic_KernelIdeal_ReferenceIdeal_pre_pre (hKernelIdeal := Cert.KernelIdeal.Gen.facts)
    (hReferenceIdeal := Cert.ReferenceIdeal.Gen.facts) (hPre_pre := Cert.Pre_pre.facts) := by
  intro m g m' g' hpre hargs
  refine ⟨fun c => Cert.KernelIdeal.Value.outAll (F := Ideal) (m ((c : Thread Cert.KernelIdeal.nD Cert.KernelIdeal.τ).loc Cert.KernelIdeal.main_arg4))
      (Cert.KernelIdeal.Value.packed (F := Ideal) (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))), ?_, ?_⟩
  · refine (θ_run _ _ _).mono (fun r h c => ⟨(h c).1.trans ?_, (h c).2⟩) (Cert.KernelIdeal.Value.run_out (F := Ideal) m g)
    exact congrArg (Cert.KernelIdeal.Value.outAll (F := Ideal) _) (Cert.KernelIdeal.Value.data_eq _)
  · refine (θ_run _ _ _).mono (fun r h c => ⟨(h.1 c).1.trans ?_, (h.1 c).2⟩) (Cert.ReferenceIdeal.Value.run_ref m' g')
    obtain ⟨e0, e1, e2, e3, e4⟩ := hargs c
    unfold Cert.ReferenceIdeal.Value.tabM
    rw [e0, e1, e2, e4]
    exact Cert.Model.results_eq _ _ _ _ (Cert.Pre_pre.all_pos (hc := Cert.Pre_pre.facts) _ _ _ _ _ (hpre c))

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_pre.facts,
    fun m ρ _ => Cert.Kernel.Gen.frame m ρ, fun m ρ _ => Cert.KernelIdeal.Gen.frame m ρ, fun m ρ _ => Cert.KernelIdeal.Gen.frame m ρ,
    frame_ref, fun m ρ _ => frame_ref m ρ trivial, trivial, algebraic⟩

end Cert.Proof

end
